-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x4096 : Shape := ⟨2, ![8192, 4096]⟩
abbrev S8192x128 : Shape := ⟨2, ![8192, 128]⟩
abbrev S2x8192x512 : Shape := ⟨3, ![2, 8192, 512]⟩
abbrev S256x512 : Shape := ⟨2, ![256, 512]⟩
abbrev S32x256x128 : Shape := ⟨3, ![32, 256, 128]⟩
abbrev S2 : Shape := ⟨1, ![2]⟩
abbrev S32 : Shape := ⟨1, ![32]⟩
abbrev S1 : Shape := ⟨1, ![1]⟩
abbrev S_ : Shape := ⟨0, ![]⟩
abbrev S1x8192x512 : Shape := ⟨3, ![1, 8192, 512]⟩
abbrev S8192x512 : Shape := ⟨2, ![8192, 512]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S256x8192, .bf16⟩
  | .local _ .vmem, ⟨3, _⟩ => ⟨S2x8192x512, .f32⟩
  | .local _ .vmem, ⟨4, _⟩ => ⟨S256x512, .bf16⟩
  | .local _ .vmem, ⟨5, _⟩ => ⟨S32x256x128, .bf16⟩
  | .local _ .vmem, ⟨6, _⟩ => ⟨S8192x128, .bf16⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32_11 : BitVec 32) : Fin 2 → Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.addi v19 c0_i32_11
  let c8_i32 : BitVec 32 := 8#32
  let c0_i32_12 : BitVec 32 := 0#32
  let v31 : BitVec 1 := Scalar.cmpi .eq c8_i32 c0_i32_12
  let c1_i32_13 : BitVec 32 := 1#32
  let v32 : BitVec 32 := Scalar.select v31 c1_i32_13 c8_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  ![0, v41.toNat]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_25 : BitVec 32 := 1#32
  let v54 : BitVec 32 := Scalar.addi v2 c1_i32_25
  let c32_i32_26 : BitVec 32 := 32#32
  let c0_i32_27 : BitVec 32 := 0#32
  let v55 : BitVec 1 := Scalar.cmpi .eq c32_i32_26 c0_i32_27
  let c1_i32_28 : BitVec 32 := 1#32
  let v56 : BitVec 32 := Scalar.select v55 c1_i32_28 c32_i32_26
  let v57 : BitVec 32 := Scalar.remsi v54 v56
  let c0_i32_30 : BitVec 32 := 0#32
  let v59 : BitVec 1 := Scalar.cmpi .slt v57 c0_i32_30
  let c0_i32_31 : BitVec 32 := 0#32
  let v60 : BitVec 1 := Scalar.cmpi .slt v56 c0_i32_31
  let v61 : BitVec 1 := Scalar.xori v59 v60
  let c0_i32_29 : BitVec 32 := 0#32
  let v58 : BitVec 1 := Scalar.cmpi .ne v57 c0_i32_29
  let v62 : BitVec 1 := Scalar.andi v61 v58
  let v63 : BitVec 32 := Scalar.addi v57 v56
  let v64 : BitVec 32 := Scalar.select v62 v63 v57
  let c1_i32_33 : BitVec 32 := 1#32
  let v65 : BitVec 32 := Scalar.muli v64 c1_i32_33
  let v66 : BitVec 32 := Scalar.addi c0_i32_34 v65
  v66.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v67 : BitVec 32 := Scalar.addi v2 c2_i32
  let c32_i32_35 : BitVec 32 := 32#32
  let c0_i32_36 : BitVec 32 := 0#32
  let v68 : BitVec 1 := Scalar.cmpi .eq c32_i32_35 c0_i32_36
  let c1_i32_37 : BitVec 32 := 1#32
  let v69 : BitVec 32 := Scalar.select v68 c1_i32_37 c32_i32_35
  let v70 : BitVec 32 := Scalar.remsi v67 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c1_i32_42 : BitVec 32 := 1#32
  let v78 : BitVec 32 := Scalar.muli v77 c1_i32_42
  let v79 : BitVec 32 := Scalar.addi c0_i32_43 v78
  v79.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v80 : BitVec 32 := Scalar.addi v2 c3_i32
  let c32_i32_44 : BitVec 32 := 32#32
  let c0_i32_45 : BitVec 32 := 0#32
  let v81 : BitVec 1 := Scalar.cmpi .eq c32_i32_44 c0_i32_45
  let c1_i32_46 : BitVec 32 := 1#32
  let v82 : BitVec 32 := Scalar.select v81 c1_i32_46 c32_i32_44
  let v83 : BitVec 32 := Scalar.remsi v80 v82
  let c0_i32_48 : BitVec 32 := 0#32
  let v85 : BitVec 1 := Scalar.cmpi .slt v83 c0_i32_48
  let c0_i32_49 : BitVec 32 := 0#32
  let v86 : BitVec 1 := Scalar.cmpi .slt v82 c0_i32_49
  let v87 : BitVec 1 := Scalar.xori v85 v86
  let c0_i32_47 : BitVec 32 := 0#32
  let v84 : BitVec 1 := Scalar.cmpi .ne v83 c0_i32_47
  let v88 : BitVec 1 := Scalar.andi v87 v84
  let v89 : BitVec 32 := Scalar.addi v83 v82
  let v90 : BitVec 32 := Scalar.select v88 v89 v83
  let c1_i32_51 : BitVec 32 := 1#32
  let v91 : BitVec 32 := Scalar.muli v90 c1_i32_51
  let v92 : BitVec 32 := Scalar.addi c0_i32_52 v91
  v92.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_53 : BitVec 32 := 4#32
  let v93 : BitVec 32 := Scalar.addi v2 c4_i32_53
  let c32_i32_54 : BitVec 32 := 32#32
  let c0_i32_55 : BitVec 32 := 0#32
  let v94 : BitVec 1 := Scalar.cmpi .eq c32_i32_54 c0_i32_55
  let c1_i32_56 : BitVec 32 := 1#32
  let v95 : BitVec 32 := Scalar.select v94 c1_i32_56 c32_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_61 : BitVec 32 := 1#32
  let v104 : BitVec 32 := Scalar.muli v103 c1_i32_61
  let v105 : BitVec 32 := Scalar.addi c0_i32_62 v104
  v105.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v106 : BitVec 32 := Scalar.addi v2 c5_i32
  let c32_i32_63 : BitVec 32 := 32#32
  let c0_i32_64 : BitVec 32 := 0#32
  let v107 : BitVec 1 := Scalar.cmpi .eq c32_i32_63 c0_i32_64
  let c1_i32_65 : BitVec 32 := 1#32
  let v108 : BitVec 32 := Scalar.select v107 c1_i32_65 c32_i32_63
  let v109 : BitVec 32 := Scalar.remsi v106 v108
  let c0_i32_67 : BitVec 32 := 0#32
  let v111 : BitVec 1 := Scalar.cmpi .slt v109 c0_i32_67
  let c0_i32_68 : BitVec 32 := 0#32
  let v112 : BitVec 1 := Scalar.cmpi .slt v108 c0_i32_68
  let v113 : BitVec 1 := Scalar.xori v111 v112
  let c0_i32_66 : BitVec 32 := 0#32
  let v110 : BitVec 1 := Scalar.cmpi .ne v109 c0_i32_66
  let v114 : BitVec 1 := Scalar.andi v113 v110
  let v115 : BitVec 32 := Scalar.addi v109 v108
  let v116 : BitVec 32 := Scalar.select v114 v115 v109
  let c1_i32_70 : BitVec 32 := 1#32
  let v117 : BitVec 32 := Scalar.muli v116 c1_i32_70
  let v118 : BitVec 32 := Scalar.addi c0_i32_71 v117
  v118.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v119 : BitVec 32 := Scalar.addi v2 c6_i32
  let c32_i32_72 : BitVec 32 := 32#32
  let c0_i32_73 : BitVec 32 := 0#32
  let v120 : BitVec 1 := Scalar.cmpi .eq c32_i32_72 c0_i32_73
  let c1_i32_74 : BitVec 32 := 1#32
  let v121 : BitVec 32 := Scalar.select v120 c1_i32_74 c32_i32_72
  let v122 : BitVec 32 := Scalar.remsi v119 v121
  let c0_i32_76 : BitVec 32 := 0#32
  let v124 : BitVec 1 := Scalar.cmpi .slt v122 c0_i32_76
  let c0_i32_77 : BitVec 32 := 0#32
  let v125 : BitVec 1 := Scalar.cmpi .slt v121 c0_i32_77
  let v126 : BitVec 1 := Scalar.xori v124 v125
  let c0_i32_75 : BitVec 32 := 0#32
  let v123 : BitVec 1 := Scalar.cmpi .ne v122 c0_i32_75
  let v127 : BitVec 1 := Scalar.andi v126 v123
  let v128 : BitVec 32 := Scalar.addi v122 v121
  let v129 : BitVec 32 := Scalar.select v127 v128 v122
  let c1_i32_79 : BitVec 32 := 1#32
  let v130 : BitVec 32 := Scalar.muli v129 c1_i32_79
  let v131 : BitVec 32 := Scalar.addi c0_i32_80 v130
  v131.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v132 : BitVec 32 := Scalar.addi v2 c7_i32
  let c32_i32_81 : BitVec 32 := 32#32
  let c0_i32_82 : BitVec 32 := 0#32
  let v133 : BitVec 1 := Scalar.cmpi .eq c32_i32_81 c0_i32_82
  let c1_i32_83 : BitVec 32 := 1#32
  let v134 : BitVec 32 := Scalar.select v133 c1_i32_83 c32_i32_81
  let v135 : BitVec 32 := Scalar.remsi v132 v134
  let c0_i32_85 : BitVec 32 := 0#32
  let v137 : BitVec 1 := Scalar.cmpi .slt v135 c0_i32_85
  let c0_i32_86 : BitVec 32 := 0#32
  let v138 : BitVec 1 := Scalar.cmpi .slt v134 c0_i32_86
  let v139 : BitVec 1 := Scalar.xori v137 v138
  let c0_i32_84 : BitVec 32 := 0#32
  let v136 : BitVec 1 := Scalar.cmpi .ne v135 c0_i32_84
  let v140 : BitVec 1 := Scalar.andi v139 v136
  let v141 : BitVec 32 := Scalar.addi v135 v134
  let v142 : BitVec 32 := Scalar.select v140 v141 v135
  let c1_i32_88 : BitVec 32 := 1#32
  let v143 : BitVec 32 := Scalar.muli v142 c1_i32_88
  let v144 : BitVec 32 := Scalar.addi c0_i32_89 v143
  v144.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_90 : BitVec 32 := 8#32
  let v145 : BitVec 32 := Scalar.addi v2 c8_i32_90
  let c32_i32_91 : BitVec 32 := 32#32
  let c0_i32_92 : BitVec 32 := 0#32
  let v146 : BitVec 1 := Scalar.cmpi .eq c32_i32_91 c0_i32_92
  let c1_i32_93 : BitVec 32 := 1#32
  let v147 : BitVec 32 := Scalar.select v146 c1_i32_93 c32_i32_91
  let v148 : BitVec 32 := Scalar.remsi v145 v147
  let c0_i32_95 : BitVec 32 := 0#32
  let v150 : BitVec 1 := Scalar.cmpi .slt v148 c0_i32_95
  let c0_i32_96 : BitVec 32 := 0#32
  let v151 : BitVec 1 := Scalar.cmpi .slt v147 c0_i32_96
  let v152 : BitVec 1 := Scalar.xori v150 v151
  let c0_i32_94 : BitVec 32 := 0#32
  let v149 : BitVec 1 := Scalar.cmpi .ne v148 c0_i32_94
  let v153 : BitVec 1 := Scalar.andi v152 v149
  let v154 : BitVec 32 := Scalar.addi v148 v147
  let v155 : BitVec 32 := Scalar.select v153 v154 v148
  let c1_i32_98 : BitVec 32 := 1#32
  let v156 : BitVec 32 := Scalar.muli v155 c1_i32_98
  let v157 : BitVec 32 := Scalar.addi c0_i32_99 v156
  v157.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v158 : BitVec 32 := Scalar.addi v2 c9_i32
  let c32_i32_100 : BitVec 32 := 32#32
  let c0_i32_101 : BitVec 32 := 0#32
  let v159 : BitVec 1 := Scalar.cmpi .eq c32_i32_100 c0_i32_101
  let c1_i32_102 : BitVec 32 := 1#32
  let v160 : BitVec 32 := Scalar.select v159 c1_i32_102 c32_i32_100
  let v161 : BitVec 32 := Scalar.remsi v158 v160
  let c0_i32_104 : BitVec 32 := 0#32
  let v163 : BitVec 1 := Scalar.cmpi .slt v161 c0_i32_104
  let c0_i32_105 : BitVec 32 := 0#32
  let v164 : BitVec 1 := Scalar.cmpi .slt v160 c0_i32_105
  let v165 : BitVec 1 := Scalar.xori v163 v164
  let c0_i32_103 : BitVec 32 := 0#32
  let v162 : BitVec 1 := Scalar.cmpi .ne v161 c0_i32_103
  let v166 : BitVec 1 := Scalar.andi v165 v162
  let v167 : BitVec 32 := Scalar.addi v161 v160
  let v168 : BitVec 32 := Scalar.select v166 v167 v161
  let c1_i32_107 : BitVec 32 := 1#32
  let v169 : BitVec 32 := Scalar.muli v168 c1_i32_107
  let v170 : BitVec 32 := Scalar.addi c0_i32_108 v169
  v170.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v171 : BitVec 32 := Scalar.addi v2 c10_i32
  let c32_i32_109 : BitVec 32 := 32#32
  let c0_i32_110 : BitVec 32 := 0#32
  let v172 : BitVec 1 := Scalar.cmpi .eq c32_i32_109 c0_i32_110
  let c1_i32_111 : BitVec 32 := 1#32
  let v173 : BitVec 32 := Scalar.select v172 c1_i32_111 c32_i32_109
  let v174 : BitVec 32 := Scalar.remsi v171 v173
  let c0_i32_113 : BitVec 32 := 0#32
  let v176 : BitVec 1 := Scalar.cmpi .slt v174 c0_i32_113
  let c0_i32_114 : BitVec 32 := 0#32
  let v177 : BitVec 1 := Scalar.cmpi .slt v173 c0_i32_114
  let v178 : BitVec 1 := Scalar.xori v176 v177
  let c0_i32_112 : BitVec 32 := 0#32
  let v175 : BitVec 1 := Scalar.cmpi .ne v174 c0_i32_112
  let v179 : BitVec 1 := Scalar.andi v178 v175
  let v180 : BitVec 32 := Scalar.addi v174 v173
  let v181 : BitVec 32 := Scalar.select v179 v180 v174
  let c1_i32_116 : BitVec 32 := 1#32
  let v182 : BitVec 32 := Scalar.muli v181 c1_i32_116
  let v183 : BitVec 32 := Scalar.addi c0_i32_117 v182
  v183.toNat
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v184 : BitVec 32 := Scalar.addi v2 c11_i32
  let c32_i32_118 : BitVec 32 := 32#32
  let c0_i32_119 : BitVec 32 := 0#32
  let v185 : BitVec 1 := Scalar.cmpi .eq c32_i32_118 c0_i32_119
  let c1_i32_120 : BitVec 32 := 1#32
  let v186 : BitVec 32 := Scalar.select v185 c1_i32_120 c32_i32_118
  let v187 : BitVec 32 := Scalar.remsi v184 v186
  let c0_i32_122 : BitVec 32 := 0#32
  let v189 : BitVec 1 := Scalar.cmpi .slt v187 c0_i32_122
  let c0_i32_123 : BitVec 32 := 0#32
  let v190 : BitVec 1 := Scalar.cmpi .slt v186 c0_i32_123
  let v191 : BitVec 1 := Scalar.xori v189 v190
  let c0_i32_121 : BitVec 32 := 0#32
  let v188 : BitVec 1 := Scalar.cmpi .ne v187 c0_i32_121
  let v192 : BitVec 1 := Scalar.andi v191 v188
  let v193 : BitVec 32 := Scalar.addi v187 v186
  let v194 : BitVec 32 := Scalar.select v192 v193 v187
  let c1_i32_125 : BitVec 32 := 1#32
  let v195 : BitVec 32 := Scalar.muli v194 c1_i32_125
  let v196 : BitVec 32 := Scalar.addi c0_i32_126 v195
  v196.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v197 : BitVec 32 := Scalar.addi v2 c12_i32
  let c32_i32_127 : BitVec 32 := 32#32
  let c0_i32_128 : BitVec 32 := 0#32
  let v198 : BitVec 1 := Scalar.cmpi .eq c32_i32_127 c0_i32_128
  let c1_i32_129 : BitVec 32 := 1#32
  let v199 : BitVec 32 := Scalar.select v198 c1_i32_129 c32_i32_127
  let v200 : BitVec 32 := Scalar.remsi v197 v199
  let c0_i32_131 : BitVec 32 := 0#32
  let v202 : BitVec 1 := Scalar.cmpi .slt v200 c0_i32_131
  let c0_i32_132 : BitVec 32 := 0#32
  let v203 : BitVec 1 := Scalar.cmpi .slt v199 c0_i32_132
  let v204 : BitVec 1 := Scalar.xori v202 v203
  let c0_i32_130 : BitVec 32 := 0#32
  let v201 : BitVec 1 := Scalar.cmpi .ne v200 c0_i32_130
  let v205 : BitVec 1 := Scalar.andi v204 v201
  let v206 : BitVec 32 := Scalar.addi v200 v199
  let v207 : BitVec 32 := Scalar.select v205 v206 v200
  let c1_i32_134 : BitVec 32 := 1#32
  let v208 : BitVec 32 := Scalar.muli v207 c1_i32_134
  let v209 : BitVec 32 := Scalar.addi c0_i32_135 v208
  v209.toNat
def k0_dev13 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v210 : BitVec 32 := Scalar.addi v2 c13_i32
  let c32_i32_136 : BitVec 32 := 32#32
  let c0_i32_137 : BitVec 32 := 0#32
  let v211 : BitVec 1 := Scalar.cmpi .eq c32_i32_136 c0_i32_137
  let c1_i32_138 : BitVec 32 := 1#32
  let v212 : BitVec 32 := Scalar.select v211 c1_i32_138 c32_i32_136
  let v213 : BitVec 32 := Scalar.remsi v210 v212
  let c0_i32_140 : BitVec 32 := 0#32
  let v215 : BitVec 1 := Scalar.cmpi .slt v213 c0_i32_140
  let c0_i32_141 : BitVec 32 := 0#32
  let v216 : BitVec 1 := Scalar.cmpi .slt v212 c0_i32_141
  let v217 : BitVec 1 := Scalar.xori v215 v216
  let c0_i32_139 : BitVec 32 := 0#32
  let v214 : BitVec 1 := Scalar.cmpi .ne v213 c0_i32_139
  let v218 : BitVec 1 := Scalar.andi v217 v214
  let v219 : BitVec 32 := Scalar.addi v213 v212
  let v220 : BitVec 32 := Scalar.select v218 v219 v213
  let c1_i32_143 : BitVec 32 := 1#32
  let v221 : BitVec 32 := Scalar.muli v220 c1_i32_143
  let v222 : BitVec 32 := Scalar.addi c0_i32_144 v221
  v222.toNat
def k0_dev14 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v223 : BitVec 32 := Scalar.addi v2 c14_i32
  let c32_i32_145 : BitVec 32 := 32#32
  let c0_i32_146 : BitVec 32 := 0#32
  let v224 : BitVec 1 := Scalar.cmpi .eq c32_i32_145 c0_i32_146
  let c1_i32_147 : BitVec 32 := 1#32
  let v225 : BitVec 32 := Scalar.select v224 c1_i32_147 c32_i32_145
  let v226 : BitVec 32 := Scalar.remsi v223 v225
  let c0_i32_149 : BitVec 32 := 0#32
  let v228 : BitVec 1 := Scalar.cmpi .slt v226 c0_i32_149
  let c0_i32_150 : BitVec 32 := 0#32
  let v229 : BitVec 1 := Scalar.cmpi .slt v225 c0_i32_150
  let v230 : BitVec 1 := Scalar.xori v228 v229
  let c0_i32_148 : BitVec 32 := 0#32
  let v227 : BitVec 1 := Scalar.cmpi .ne v226 c0_i32_148
  let v231 : BitVec 1 := Scalar.andi v230 v227
  let v232 : BitVec 32 := Scalar.addi v226 v225
  let v233 : BitVec 32 := Scalar.select v231 v232 v226
  let c1_i32_152 : BitVec 32 := 1#32
  let v234 : BitVec 32 := Scalar.muli v233 c1_i32_152
  let v235 : BitVec 32 := Scalar.addi c0_i32_153 v234
  v235.toNat
def k0_dev15 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v236 : BitVec 32 := Scalar.addi v2 c15_i32
  let c32_i32_154 : BitVec 32 := 32#32
  let c0_i32_155 : BitVec 32 := 0#32
  let v237 : BitVec 1 := Scalar.cmpi .eq c32_i32_154 c0_i32_155
  let c1_i32_156 : BitVec 32 := 1#32
  let v238 : BitVec 32 := Scalar.select v237 c1_i32_156 c32_i32_154
  let v239 : BitVec 32 := Scalar.remsi v236 v238
  let c0_i32_158 : BitVec 32 := 0#32
  let v241 : BitVec 1 := Scalar.cmpi .slt v239 c0_i32_158
  let c0_i32_159 : BitVec 32 := 0#32
  let v242 : BitVec 1 := Scalar.cmpi .slt v238 c0_i32_159
  let v243 : BitVec 1 := Scalar.xori v241 v242
  let c0_i32_157 : BitVec 32 := 0#32
  let v240 : BitVec 1 := Scalar.cmpi .ne v239 c0_i32_157
  let v244 : BitVec 1 := Scalar.andi v243 v240
  let v245 : BitVec 32 := Scalar.addi v239 v238
  let v246 : BitVec 32 := Scalar.select v244 v245 v239
  let c1_i32_161 : BitVec 32 := 1#32
  let v247 : BitVec 32 := Scalar.muli v246 c1_i32_161
  let v248 : BitVec 32 := Scalar.addi c0_i32_162 v247
  v248.toNat
def k0_dev16 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v249 : BitVec 32 := Scalar.addi v2 c16_i32
  let c32_i32_163 : BitVec 32 := 32#32
  let c0_i32_164 : BitVec 32 := 0#32
  let v250 : BitVec 1 := Scalar.cmpi .eq c32_i32_163 c0_i32_164
  let c1_i32_165 : BitVec 32 := 1#32
  let v251 : BitVec 32 := Scalar.select v250 c1_i32_165 c32_i32_163
  let v252 : BitVec 32 := Scalar.remsi v249 v251
  let c0_i32_167 : BitVec 32 := 0#32
  let v254 : BitVec 1 := Scalar.cmpi .slt v252 c0_i32_167
  let c0_i32_168 : BitVec 32 := 0#32
  let v255 : BitVec 1 := Scalar.cmpi .slt v251 c0_i32_168
  let v256 : BitVec 1 := Scalar.xori v254 v255
  let c0_i32_166 : BitVec 32 := 0#32
  let v253 : BitVec 1 := Scalar.cmpi .ne v252 c0_i32_166
  let v257 : BitVec 1 := Scalar.andi v256 v253
  let v258 : BitVec 32 := Scalar.addi v252 v251
  let v259 : BitVec 32 := Scalar.select v257 v258 v252
  let c1_i32_170 : BitVec 32 := 1#32
  let v260 : BitVec 32 := Scalar.muli v259 c1_i32_170
  let v261 : BitVec 32 := Scalar.addi c0_i32_171 v260
  v261.toNat
def k0_dev17 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v262 : BitVec 32 := Scalar.addi v2 c17_i32
  let c32_i32_172 : BitVec 32 := 32#32
  let c0_i32_173 : BitVec 32 := 0#32
  let v263 : BitVec 1 := Scalar.cmpi .eq c32_i32_172 c0_i32_173
  let c1_i32_174 : BitVec 32 := 1#32
  let v264 : BitVec 32 := Scalar.select v263 c1_i32_174 c32_i32_172
  let v265 : BitVec 32 := Scalar.remsi v262 v264
  let c0_i32_176 : BitVec 32 := 0#32
  let v267 : BitVec 1 := Scalar.cmpi .slt v265 c0_i32_176
  let c0_i32_177 : BitVec 32 := 0#32
  let v268 : BitVec 1 := Scalar.cmpi .slt v264 c0_i32_177
  let v269 : BitVec 1 := Scalar.xori v267 v268
  let c0_i32_175 : BitVec 32 := 0#32
  let v266 : BitVec 1 := Scalar.cmpi .ne v265 c0_i32_175
  let v270 : BitVec 1 := Scalar.andi v269 v266
  let v271 : BitVec 32 := Scalar.addi v265 v264
  let v272 : BitVec 32 := Scalar.select v270 v271 v265
  let c1_i32_179 : BitVec 32 := 1#32
  let v273 : BitVec 32 := Scalar.muli v272 c1_i32_179
  let v274 : BitVec 32 := Scalar.addi c0_i32_180 v273
  v274.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v275 : BitVec 32 := Scalar.addi v2 c18_i32
  let c32_i32_181 : BitVec 32 := 32#32
  let c0_i32_182 : BitVec 32 := 0#32
  let v276 : BitVec 1 := Scalar.cmpi .eq c32_i32_181 c0_i32_182
  let c1_i32_183 : BitVec 32 := 1#32
  let v277 : BitVec 32 := Scalar.select v276 c1_i32_183 c32_i32_181
  let v278 : BitVec 32 := Scalar.remsi v275 v277
  let c0_i32_185 : BitVec 32 := 0#32
  let v280 : BitVec 1 := Scalar.cmpi .slt v278 c0_i32_185
  let c0_i32_186 : BitVec 32 := 0#32
  let v281 : BitVec 1 := Scalar.cmpi .slt v277 c0_i32_186
  let v282 : BitVec 1 := Scalar.xori v280 v281
  let c0_i32_184 : BitVec 32 := 0#32
  let v279 : BitVec 1 := Scalar.cmpi .ne v278 c0_i32_184
  let v283 : BitVec 1 := Scalar.andi v282 v279
  let v284 : BitVec 32 := Scalar.addi v278 v277
  let v285 : BitVec 32 := Scalar.select v283 v284 v278
  let c1_i32_188 : BitVec 32 := 1#32
  let v286 : BitVec 32 := Scalar.muli v285 c1_i32_188
  let v287 : BitVec 32 := Scalar.addi c0_i32_189 v286
  v287.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v288 : BitVec 32 := Scalar.addi v2 c19_i32
  let c32_i32_190 : BitVec 32 := 32#32
  let c0_i32_191 : BitVec 32 := 0#32
  let v289 : BitVec 1 := Scalar.cmpi .eq c32_i32_190 c0_i32_191
  let c1_i32_192 : BitVec 32 := 1#32
  let v290 : BitVec 32 := Scalar.select v289 c1_i32_192 c32_i32_190
  let v291 : BitVec 32 := Scalar.remsi v288 v290
  let c0_i32_194 : BitVec 32 := 0#32
  let v293 : BitVec 1 := Scalar.cmpi .slt v291 c0_i32_194
  let c0_i32_195 : BitVec 32 := 0#32
  let v294 : BitVec 1 := Scalar.cmpi .slt v290 c0_i32_195
  let v295 : BitVec 1 := Scalar.xori v293 v294
  let c0_i32_193 : BitVec 32 := 0#32
  let v292 : BitVec 1 := Scalar.cmpi .ne v291 c0_i32_193
  let v296 : BitVec 1 := Scalar.andi v295 v292
  let v297 : BitVec 32 := Scalar.addi v291 v290
  let v298 : BitVec 32 := Scalar.select v296 v297 v291
  let c1_i32_197 : BitVec 32 := 1#32
  let v299 : BitVec 32 := Scalar.muli v298 c1_i32_197
  let v300 : BitVec 32 := Scalar.addi c0_i32_198 v299
  v300.toNat
def k0_dev20 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v301 : BitVec 32 := Scalar.addi v2 c20_i32
  let c32_i32_199 : BitVec 32 := 32#32
  let c0_i32_200 : BitVec 32 := 0#32
  let v302 : BitVec 1 := Scalar.cmpi .eq c32_i32_199 c0_i32_200
  let c1_i32_201 : BitVec 32 := 1#32
  let v303 : BitVec 32 := Scalar.select v302 c1_i32_201 c32_i32_199
  let v304 : BitVec 32 := Scalar.remsi v301 v303
  let c0_i32_203 : BitVec 32 := 0#32
  let v306 : BitVec 1 := Scalar.cmpi .slt v304 c0_i32_203
  let c0_i32_204 : BitVec 32 := 0#32
  let v307 : BitVec 1 := Scalar.cmpi .slt v303 c0_i32_204
  let v308 : BitVec 1 := Scalar.xori v306 v307
  let c0_i32_202 : BitVec 32 := 0#32
  let v305 : BitVec 1 := Scalar.cmpi .ne v304 c0_i32_202
  let v309 : BitVec 1 := Scalar.andi v308 v305
  let v310 : BitVec 32 := Scalar.addi v304 v303
  let v311 : BitVec 32 := Scalar.select v309 v310 v304
  let c1_i32_206 : BitVec 32 := 1#32
  let v312 : BitVec 32 := Scalar.muli v311 c1_i32_206
  let v313 : BitVec 32 := Scalar.addi c0_i32_207 v312
  v313.toNat
def k0_dev21 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v314 : BitVec 32 := Scalar.addi v2 c21_i32
  let c32_i32_208 : BitVec 32 := 32#32
  let c0_i32_209 : BitVec 32 := 0#32
  let v315 : BitVec 1 := Scalar.cmpi .eq c32_i32_208 c0_i32_209
  let c1_i32_210 : BitVec 32 := 1#32
  let v316 : BitVec 32 := Scalar.select v315 c1_i32_210 c32_i32_208
  let v317 : BitVec 32 := Scalar.remsi v314 v316
  let c0_i32_212 : BitVec 32 := 0#32
  let v319 : BitVec 1 := Scalar.cmpi .slt v317 c0_i32_212
  let c0_i32_213 : BitVec 32 := 0#32
  let v320 : BitVec 1 := Scalar.cmpi .slt v316 c0_i32_213
  let v321 : BitVec 1 := Scalar.xori v319 v320
  let c0_i32_211 : BitVec 32 := 0#32
  let v318 : BitVec 1 := Scalar.cmpi .ne v317 c0_i32_211
  let v322 : BitVec 1 := Scalar.andi v321 v318
  let v323 : BitVec 32 := Scalar.addi v317 v316
  let v324 : BitVec 32 := Scalar.select v322 v323 v317
  let c1_i32_215 : BitVec 32 := 1#32
  let v325 : BitVec 32 := Scalar.muli v324 c1_i32_215
  let v326 : BitVec 32 := Scalar.addi c0_i32_216 v325
  v326.toNat
def k0_dev22 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v327 : BitVec 32 := Scalar.addi v2 c22_i32
  let c32_i32_217 : BitVec 32 := 32#32
  let c0_i32_218 : BitVec 32 := 0#32
  let v328 : BitVec 1 := Scalar.cmpi .eq c32_i32_217 c0_i32_218
  let c1_i32_219 : BitVec 32 := 1#32
  let v329 : BitVec 32 := Scalar.select v328 c1_i32_219 c32_i32_217
  let v330 : BitVec 32 := Scalar.remsi v327 v329
  let c0_i32_221 : BitVec 32 := 0#32
  let v332 : BitVec 1 := Scalar.cmpi .slt v330 c0_i32_221
  let c0_i32_222 : BitVec 32 := 0#32
  let v333 : BitVec 1 := Scalar.cmpi .slt v329 c0_i32_222
  let v334 : BitVec 1 := Scalar.xori v332 v333
  let c0_i32_220 : BitVec 32 := 0#32
  let v331 : BitVec 1 := Scalar.cmpi .ne v330 c0_i32_220
  let v335 : BitVec 1 := Scalar.andi v334 v331
  let v336 : BitVec 32 := Scalar.addi v330 v329
  let v337 : BitVec 32 := Scalar.select v335 v336 v330
  let c1_i32_224 : BitVec 32 := 1#32
  let v338 : BitVec 32 := Scalar.muli v337 c1_i32_224
  let v339 : BitVec 32 := Scalar.addi c0_i32_225 v338
  v339.toNat
def k0_dev23 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v340 : BitVec 32 := Scalar.addi v2 c23_i32
  let c32_i32_226 : BitVec 32 := 32#32
  let c0_i32_227 : BitVec 32 := 0#32
  let v341 : BitVec 1 := Scalar.cmpi .eq c32_i32_226 c0_i32_227
  let c1_i32_228 : BitVec 32 := 1#32
  let v342 : BitVec 32 := Scalar.select v341 c1_i32_228 c32_i32_226
  let v343 : BitVec 32 := Scalar.remsi v340 v342
  let c0_i32_230 : BitVec 32 := 0#32
  let v345 : BitVec 1 := Scalar.cmpi .slt v343 c0_i32_230
  let c0_i32_231 : BitVec 32 := 0#32
  let v346 : BitVec 1 := Scalar.cmpi .slt v342 c0_i32_231
  let v347 : BitVec 1 := Scalar.xori v345 v346
  let c0_i32_229 : BitVec 32 := 0#32
  let v344 : BitVec 1 := Scalar.cmpi .ne v343 c0_i32_229
  let v348 : BitVec 1 := Scalar.andi v347 v344
  let v349 : BitVec 32 := Scalar.addi v343 v342
  let v350 : BitVec 32 := Scalar.select v348 v349 v343
  let c1_i32_233 : BitVec 32 := 1#32
  let v351 : BitVec 32 := Scalar.muli v350 c1_i32_233
  let v352 : BitVec 32 := Scalar.addi c0_i32_234 v351
  v352.toNat
def k0_dev24 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v353 : BitVec 32 := Scalar.addi v2 c24_i32
  let c32_i32_235 : BitVec 32 := 32#32
  let c0_i32_236 : BitVec 32 := 0#32
  let v354 : BitVec 1 := Scalar.cmpi .eq c32_i32_235 c0_i32_236
  let c1_i32_237 : BitVec 32 := 1#32
  let v355 : BitVec 32 := Scalar.select v354 c1_i32_237 c32_i32_235
  let v356 : BitVec 32 := Scalar.remsi v353 v355
  let c0_i32_239 : BitVec 32 := 0#32
  let v358 : BitVec 1 := Scalar.cmpi .slt v356 c0_i32_239
  let c0_i32_240 : BitVec 32 := 0#32
  let v359 : BitVec 1 := Scalar.cmpi .slt v355 c0_i32_240
  let v360 : BitVec 1 := Scalar.xori v358 v359
  let c0_i32_238 : BitVec 32 := 0#32
  let v357 : BitVec 1 := Scalar.cmpi .ne v356 c0_i32_238
  let v361 : BitVec 1 := Scalar.andi v360 v357
  let v362 : BitVec 32 := Scalar.addi v356 v355
  let v363 : BitVec 32 := Scalar.select v361 v362 v356
  let c1_i32_242 : BitVec 32 := 1#32
  let v364 : BitVec 32 := Scalar.muli v363 c1_i32_242
  let v365 : BitVec 32 := Scalar.addi c0_i32_243 v364
  v365.toNat
def k0_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v366 : BitVec 32 := Scalar.addi v2 c25_i32
  let c32_i32_244 : BitVec 32 := 32#32
  let c0_i32_245 : BitVec 32 := 0#32
  let v367 : BitVec 1 := Scalar.cmpi .eq c32_i32_244 c0_i32_245
  let c1_i32_246 : BitVec 32 := 1#32
  let v368 : BitVec 32 := Scalar.select v367 c1_i32_246 c32_i32_244
  let v369 : BitVec 32 := Scalar.remsi v366 v368
  let c0_i32_248 : BitVec 32 := 0#32
  let v371 : BitVec 1 := Scalar.cmpi .slt v369 c0_i32_248
  let c0_i32_249 : BitVec 32 := 0#32
  let v372 : BitVec 1 := Scalar.cmpi .slt v368 c0_i32_249
  let v373 : BitVec 1 := Scalar.xori v371 v372
  let c0_i32_247 : BitVec 32 := 0#32
  let v370 : BitVec 1 := Scalar.cmpi .ne v369 c0_i32_247
  let v374 : BitVec 1 := Scalar.andi v373 v370
  let v375 : BitVec 32 := Scalar.addi v369 v368
  let v376 : BitVec 32 := Scalar.select v374 v375 v369
  let c1_i32_251 : BitVec 32 := 1#32
  let v377 : BitVec 32 := Scalar.muli v376 c1_i32_251
  let v378 : BitVec 32 := Scalar.addi c0_i32_252 v377
  v378.toNat
def k0_dev26 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v379 : BitVec 32 := Scalar.addi v2 c26_i32
  let c32_i32_253 : BitVec 32 := 32#32
  let c0_i32_254 : BitVec 32 := 0#32
  let v380 : BitVec 1 := Scalar.cmpi .eq c32_i32_253 c0_i32_254
  let c1_i32_255 : BitVec 32 := 1#32
  let v381 : BitVec 32 := Scalar.select v380 c1_i32_255 c32_i32_253
  let v382 : BitVec 32 := Scalar.remsi v379 v381
  let c0_i32_257 : BitVec 32 := 0#32
  let v384 : BitVec 1 := Scalar.cmpi .slt v382 c0_i32_257
  let c0_i32_258 : BitVec 32 := 0#32
  let v385 : BitVec 1 := Scalar.cmpi .slt v381 c0_i32_258
  let v386 : BitVec 1 := Scalar.xori v384 v385
  let c0_i32_256 : BitVec 32 := 0#32
  let v383 : BitVec 1 := Scalar.cmpi .ne v382 c0_i32_256
  let v387 : BitVec 1 := Scalar.andi v386 v383
  let v388 : BitVec 32 := Scalar.addi v382 v381
  let v389 : BitVec 32 := Scalar.select v387 v388 v382
  let c1_i32_260 : BitVec 32 := 1#32
  let v390 : BitVec 32 := Scalar.muli v389 c1_i32_260
  let v391 : BitVec 32 := Scalar.addi c0_i32_261 v390
  v391.toNat
def k0_dev27 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v392 : BitVec 32 := Scalar.addi v2 c27_i32
  let c32_i32_262 : BitVec 32 := 32#32
  let c0_i32_263 : BitVec 32 := 0#32
  let v393 : BitVec 1 := Scalar.cmpi .eq c32_i32_262 c0_i32_263
  let c1_i32_264 : BitVec 32 := 1#32
  let v394 : BitVec 32 := Scalar.select v393 c1_i32_264 c32_i32_262
  let v395 : BitVec 32 := Scalar.remsi v392 v394
  let c0_i32_266 : BitVec 32 := 0#32
  let v397 : BitVec 1 := Scalar.cmpi .slt v395 c0_i32_266
  let c0_i32_267 : BitVec 32 := 0#32
  let v398 : BitVec 1 := Scalar.cmpi .slt v394 c0_i32_267
  let v399 : BitVec 1 := Scalar.xori v397 v398
  let c0_i32_265 : BitVec 32 := 0#32
  let v396 : BitVec 1 := Scalar.cmpi .ne v395 c0_i32_265
  let v400 : BitVec 1 := Scalar.andi v399 v396
  let v401 : BitVec 32 := Scalar.addi v395 v394
  let v402 : BitVec 32 := Scalar.select v400 v401 v395
  let c1_i32_269 : BitVec 32 := 1#32
  let v403 : BitVec 32 := Scalar.muli v402 c1_i32_269
  let v404 : BitVec 32 := Scalar.addi c0_i32_270 v403
  v404.toNat
def k0_dev28 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v405 : BitVec 32 := Scalar.addi v2 c28_i32
  let c32_i32_271 : BitVec 32 := 32#32
  let c0_i32_272 : BitVec 32 := 0#32
  let v406 : BitVec 1 := Scalar.cmpi .eq c32_i32_271 c0_i32_272
  let c1_i32_273 : BitVec 32 := 1#32
  let v407 : BitVec 32 := Scalar.select v406 c1_i32_273 c32_i32_271
  let v408 : BitVec 32 := Scalar.remsi v405 v407
  let c0_i32_275 : BitVec 32 := 0#32
  let v410 : BitVec 1 := Scalar.cmpi .slt v408 c0_i32_275
  let c0_i32_276 : BitVec 32 := 0#32
  let v411 : BitVec 1 := Scalar.cmpi .slt v407 c0_i32_276
  let v412 : BitVec 1 := Scalar.xori v410 v411
  let c0_i32_274 : BitVec 32 := 0#32
  let v409 : BitVec 1 := Scalar.cmpi .ne v408 c0_i32_274
  let v413 : BitVec 1 := Scalar.andi v412 v409
  let v414 : BitVec 32 := Scalar.addi v408 v407
  let v415 : BitVec 32 := Scalar.select v413 v414 v408
  let c1_i32_278 : BitVec 32 := 1#32
  let v416 : BitVec 32 := Scalar.muli v415 c1_i32_278
  let v417 : BitVec 32 := Scalar.addi c0_i32_279 v416
  v417.toNat
def k0_dev29 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v418 : BitVec 32 := Scalar.addi v2 c29_i32
  let c32_i32_280 : BitVec 32 := 32#32
  let c0_i32_281 : BitVec 32 := 0#32
  let v419 : BitVec 1 := Scalar.cmpi .eq c32_i32_280 c0_i32_281
  let c1_i32_282 : BitVec 32 := 1#32
  let v420 : BitVec 32 := Scalar.select v419 c1_i32_282 c32_i32_280
  let v421 : BitVec 32 := Scalar.remsi v418 v420
  let c0_i32_284 : BitVec 32 := 0#32
  let v423 : BitVec 1 := Scalar.cmpi .slt v421 c0_i32_284
  let c0_i32_285 : BitVec 32 := 0#32
  let v424 : BitVec 1 := Scalar.cmpi .slt v420 c0_i32_285
  let v425 : BitVec 1 := Scalar.xori v423 v424
  let c0_i32_283 : BitVec 32 := 0#32
  let v422 : BitVec 1 := Scalar.cmpi .ne v421 c0_i32_283
  let v426 : BitVec 1 := Scalar.andi v425 v422
  let v427 : BitVec 32 := Scalar.addi v421 v420
  let v428 : BitVec 32 := Scalar.select v426 v427 v421
  let c1_i32_287 : BitVec 32 := 1#32
  let v429 : BitVec 32 := Scalar.muli v428 c1_i32_287
  let v430 : BitVec 32 := Scalar.addi c0_i32_288 v429
  v430.toNat
def k0_dev30 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v431 : BitVec 32 := Scalar.addi v2 c30_i32
  let c32_i32_289 : BitVec 32 := 32#32
  let c0_i32_290 : BitVec 32 := 0#32
  let v432 : BitVec 1 := Scalar.cmpi .eq c32_i32_289 c0_i32_290
  let c1_i32_291 : BitVec 32 := 1#32
  let v433 : BitVec 32 := Scalar.select v432 c1_i32_291 c32_i32_289
  let v434 : BitVec 32 := Scalar.remsi v431 v433
  let c0_i32_293 : BitVec 32 := 0#32
  let v436 : BitVec 1 := Scalar.cmpi .slt v434 c0_i32_293
  let c0_i32_294 : BitVec 32 := 0#32
  let v437 : BitVec 1 := Scalar.cmpi .slt v433 c0_i32_294
  let v438 : BitVec 1 := Scalar.xori v436 v437
  let c0_i32_292 : BitVec 32 := 0#32
  let v435 : BitVec 1 := Scalar.cmpi .ne v434 c0_i32_292
  let v439 : BitVec 1 := Scalar.andi v438 v435
  let v440 : BitVec 32 := Scalar.addi v434 v433
  let v441 : BitVec 32 := Scalar.select v439 v440 v434
  let c1_i32_296 : BitVec 32 := 1#32
  let v442 : BitVec 32 := Scalar.muli v441 c1_i32_296
  let v443 : BitVec 32 := Scalar.addi c0_i32_297 v442
  v443.toNat
def k0_dev31 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v444 : BitVec 32 := Scalar.addi v2 c31_i32
  let c32_i32_298 : BitVec 32 := 32#32
  let c0_i32_299 : BitVec 32 := 0#32
  let v445 : BitVec 1 := Scalar.cmpi .eq c32_i32_298 c0_i32_299
  let c1_i32_300 : BitVec 32 := 1#32
  let v446 : BitVec 32 := Scalar.select v445 c1_i32_300 c32_i32_298
  let v447 : BitVec 32 := Scalar.remsi v444 v446
  let c0_i32_302 : BitVec 32 := 0#32
  let v449 : BitVec 1 := Scalar.cmpi .slt v447 c0_i32_302
  let c0_i32_303 : BitVec 32 := 0#32
  let v450 : BitVec 1 := Scalar.cmpi .slt v446 c0_i32_303
  let v451 : BitVec 1 := Scalar.xori v449 v450
  let c0_i32_301 : BitVec 32 := 0#32
  let v448 : BitVec 1 := Scalar.cmpi .ne v447 c0_i32_301
  let v452 : BitVec 1 := Scalar.andi v451 v448
  let v453 : BitVec 32 := Scalar.addi v447 v446
  let v454 : BitVec 32 := Scalar.select v452 v453 v447
  let c1_i32_305 : BitVec 32 := 1#32
  let v455 : BitVec 32 := Scalar.muli v454 c1_i32_305
  let v456 : BitVec 32 := Scalar.addi c0_i32_306 v455
  v456.toNat
def k0_off2 (d0 : Dev nD) (c0_i32_348 : BitVec 32) : Fin 2 → Nat :=
  let c0_355 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v511 : BitVec 32 := Scalar.addi v29 c0_i32_348
  let c4_i32_349 : BitVec 32 := 4#32
  let c0_i32_350 : BitVec 32 := 0#32
  let v512 : BitVec 1 := Scalar.cmpi .eq c4_i32_349 c0_i32_350
  let c1_i32_351 : BitVec 32 := 1#32
  let v513 : BitVec 32 := Scalar.select v512 c1_i32_351 c4_i32_349
  let v514 : BitVec 32 := Scalar.remsi v511 v513
  let c0_i32_353 : BitVec 32 := 0#32
  let v516 : BitVec 1 := Scalar.cmpi .slt v514 c0_i32_353
  let c0_i32_354 : BitVec 32 := 0#32
  let v517 : BitVec 1 := Scalar.cmpi .slt v513 c0_i32_354
  let v518 : BitVec 1 := Scalar.xori v516 v517
  let c0_i32_352 : BitVec 32 := 0#32
  let v515 : BitVec 1 := Scalar.cmpi .ne v514 c0_i32_352
  let v519 : BitVec 1 := Scalar.andi v518 v515
  let v520 : BitVec 32 := Scalar.addi v514 v513
  let v521 : BitVec 32 := Scalar.select v519 v520 v514
  let c128_i32 : BitVec 32 := 128#32
  let v522 : BitVec 32 := Scalar.muli v521 c128_i32
  let v523 : Index := Scalar.indexCast v522
  ![0, v523.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v525 : BitVec 32 := Scalar.muli v2 c256_i32
  let v526 : Index := Scalar.indexCast v525
  let c0_356 : Index := 0#32
  ![v526.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_369 : BitVec 32 := 256#32
  let v549 : BitVec 32 := Scalar.muli v2 c256_i32_369
  let c0_i32_375 : BitVec 32 := 0#32
  ![v549.toNat, 0]
def k0_dev32 (d0 : Dev nD) : Nat :=
  let c0_i32_374 : BitVec 32 := 0#32
  let c4_i32_364 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_341 : BitVec 32 := 0#32
  let v500 : BitVec 32 := Scalar.addi v19 c0_i32_341
  let c8_i32_342 : BitVec 32 := 8#32
  let c0_i32_343 : BitVec 32 := 0#32
  let v501 : BitVec 1 := Scalar.cmpi .eq c8_i32_342 c0_i32_343
  let c1_i32_344 : BitVec 32 := 1#32
  let v502 : BitVec 32 := Scalar.select v501 c1_i32_344 c8_i32_342
  let v503 : BitVec 32 := Scalar.remsi v500 v502
  let c0_i32_346 : BitVec 32 := 0#32
  let v505 : BitVec 1 := Scalar.cmpi .slt v503 c0_i32_346
  let c0_i32_347 : BitVec 32 := 0#32
  let v506 : BitVec 1 := Scalar.cmpi .slt v502 c0_i32_347
  let v507 : BitVec 1 := Scalar.xori v505 v506
  let c0_i32_345 : BitVec 32 := 0#32
  let v504 : BitVec 1 := Scalar.cmpi .ne v503 c0_i32_345
  let v508 : BitVec 1 := Scalar.andi v507 v504
  let v509 : BitVec 32 := Scalar.addi v503 v502
  let v510 : BitVec 32 := Scalar.select v508 v509 v503
  let v541 : BitVec 32 := Scalar.muli c4_i32_364 v510
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_357 : BitVec 32 := 1#32
  let v530 : BitVec 32 := Scalar.addi v29 c1_i32_357
  let c4_i32_358 : BitVec 32 := 4#32
  let c0_i32_359 : BitVec 32 := 0#32
  let v531 : BitVec 1 := Scalar.cmpi .eq c4_i32_358 c0_i32_359
  let c1_i32_360 : BitVec 32 := 1#32
  let v532 : BitVec 32 := Scalar.select v531 c1_i32_360 c4_i32_358
  let v533 : BitVec 32 := Scalar.remsi v530 v532
  let c0_i32_362 : BitVec 32 := 0#32
  let v535 : BitVec 1 := Scalar.cmpi .slt v533 c0_i32_362
  let c0_i32_363 : BitVec 32 := 0#32
  let v536 : BitVec 1 := Scalar.cmpi .slt v532 c0_i32_363
  let v537 : BitVec 1 := Scalar.xori v535 v536
  let c0_i32_361 : BitVec 32 := 0#32
  let v534 : BitVec 1 := Scalar.cmpi .ne v533 c0_i32_361
  let v538 : BitVec 1 := Scalar.andi v537 v534
  let v539 : BitVec 32 := Scalar.addi v533 v532
  let v540 : BitVec 32 := Scalar.select v538 v539 v533
  let v542 : BitVec 32 := Scalar.addi v541 v540
  let c1_i32_373 : BitVec 32 := 1#32
  let v550 : BitVec 32 := Scalar.muli v542 c1_i32_373
  let v551 : BitVec 32 := Scalar.addi c0_i32_374 v550
  v551.toNat
def k0_dev33 (d0 : Dev nD) : Nat :=
  let c0_i32_395 : BitVec 32 := 0#32
  let c4_i32_385 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_341 : BitVec 32 := 0#32
  let v500 : BitVec 32 := Scalar.addi v19 c0_i32_341
  let c8_i32_342 : BitVec 32 := 8#32
  let c0_i32_343 : BitVec 32 := 0#32
  let v501 : BitVec 1 := Scalar.cmpi .eq c8_i32_342 c0_i32_343
  let c1_i32_344 : BitVec 32 := 1#32
  let v502 : BitVec 32 := Scalar.select v501 c1_i32_344 c8_i32_342
  let v503 : BitVec 32 := Scalar.remsi v500 v502
  let c0_i32_346 : BitVec 32 := 0#32
  let v505 : BitVec 1 := Scalar.cmpi .slt v503 c0_i32_346
  let c0_i32_347 : BitVec 32 := 0#32
  let v506 : BitVec 1 := Scalar.cmpi .slt v502 c0_i32_347
  let v507 : BitVec 1 := Scalar.xori v505 v506
  let c0_i32_345 : BitVec 32 := 0#32
  let v504 : BitVec 1 := Scalar.cmpi .ne v503 c0_i32_345
  let v508 : BitVec 1 := Scalar.andi v507 v504
  let v509 : BitVec 32 := Scalar.addi v503 v502
  let v510 : BitVec 32 := Scalar.select v508 v509 v503
  let v570 : BitVec 32 := Scalar.muli c4_i32_385 v510
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_378 : BitVec 32 := 2#32
  let v559 : BitVec 32 := Scalar.addi v29 c2_i32_378
  let c4_i32_379 : BitVec 32 := 4#32
  let c0_i32_380 : BitVec 32 := 0#32
  let v560 : BitVec 1 := Scalar.cmpi .eq c4_i32_379 c0_i32_380
  let c1_i32_381 : BitVec 32 := 1#32
  let v561 : BitVec 32 := Scalar.select v560 c1_i32_381 c4_i32_379
  let v562 : BitVec 32 := Scalar.remsi v559 v561
  let c0_i32_383 : BitVec 32 := 0#32
  let v564 : BitVec 1 := Scalar.cmpi .slt v562 c0_i32_383
  let c0_i32_384 : BitVec 32 := 0#32
  let v565 : BitVec 1 := Scalar.cmpi .slt v561 c0_i32_384
  let v566 : BitVec 1 := Scalar.xori v564 v565
  let c0_i32_382 : BitVec 32 := 0#32
  let v563 : BitVec 1 := Scalar.cmpi .ne v562 c0_i32_382
  let v567 : BitVec 1 := Scalar.andi v566 v563
  let v568 : BitVec 32 := Scalar.addi v562 v561
  let v569 : BitVec 32 := Scalar.select v567 v568 v562
  let v571 : BitVec 32 := Scalar.addi v570 v569
  let c1_i32_394 : BitVec 32 := 1#32
  let v579 : BitVec 32 := Scalar.muli v571 c1_i32_394
  let v580 : BitVec 32 := Scalar.addi c0_i32_395 v579
  v580.toNat
def k0_dev34 (d0 : Dev nD) : Nat :=
  let c0_i32_416 : BitVec 32 := 0#32
  let c4_i32_406 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_341 : BitVec 32 := 0#32
  let v500 : BitVec 32 := Scalar.addi v19 c0_i32_341
  let c8_i32_342 : BitVec 32 := 8#32
  let c0_i32_343 : BitVec 32 := 0#32
  let v501 : BitVec 1 := Scalar.cmpi .eq c8_i32_342 c0_i32_343
  let c1_i32_344 : BitVec 32 := 1#32
  let v502 : BitVec 32 := Scalar.select v501 c1_i32_344 c8_i32_342
  let v503 : BitVec 32 := Scalar.remsi v500 v502
  let c0_i32_346 : BitVec 32 := 0#32
  let v505 : BitVec 1 := Scalar.cmpi .slt v503 c0_i32_346
  let c0_i32_347 : BitVec 32 := 0#32
  let v506 : BitVec 1 := Scalar.cmpi .slt v502 c0_i32_347
  let v507 : BitVec 1 := Scalar.xori v505 v506
  let c0_i32_345 : BitVec 32 := 0#32
  let v504 : BitVec 1 := Scalar.cmpi .ne v503 c0_i32_345
  let v508 : BitVec 1 := Scalar.andi v507 v504
  let v509 : BitVec 32 := Scalar.addi v503 v502
  let v510 : BitVec 32 := Scalar.select v508 v509 v503
  let v599 : BitVec 32 := Scalar.muli c4_i32_406 v510
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_399 : BitVec 32 := 3#32
  let v588 : BitVec 32 := Scalar.addi v29 c3_i32_399
  let c4_i32_400 : BitVec 32 := 4#32
  let c0_i32_401 : BitVec 32 := 0#32
  let v589 : BitVec 1 := Scalar.cmpi .eq c4_i32_400 c0_i32_401
  let c1_i32_402 : BitVec 32 := 1#32
  let v590 : BitVec 32 := Scalar.select v589 c1_i32_402 c4_i32_400
  let v591 : BitVec 32 := Scalar.remsi v588 v590
  let c0_i32_404 : BitVec 32 := 0#32
  let v593 : BitVec 1 := Scalar.cmpi .slt v591 c0_i32_404
  let c0_i32_405 : BitVec 32 := 0#32
  let v594 : BitVec 1 := Scalar.cmpi .slt v590 c0_i32_405
  let v595 : BitVec 1 := Scalar.xori v593 v594
  let c0_i32_403 : BitVec 32 := 0#32
  let v592 : BitVec 1 := Scalar.cmpi .ne v591 c0_i32_403
  let v596 : BitVec 1 := Scalar.andi v595 v592
  let v597 : BitVec 32 := Scalar.addi v591 v590
  let v598 : BitVec 32 := Scalar.select v596 v597 v591
  let v600 : BitVec 32 := Scalar.addi v599 v598
  let c1_i32_415 : BitVec 32 := 1#32
  let v608 : BitVec 32 := Scalar.muli v600 c1_i32_415
  let v609 : BitVec 32 := Scalar.addi c0_i32_416 v608
  v609.toNat
def k0_dev35 (d0 : Dev nD) : Nat :=
  let c0_i32_478 : BitVec 32 := 0#32
  let c4_i32_468 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_454 : BitVec 32 := 1#32
  let v660 : BitVec 32 := Scalar.addi v19 c1_i32_454
  let c8_i32_455 : BitVec 32 := 8#32
  let c0_i32_456 : BitVec 32 := 0#32
  let v661 : BitVec 1 := Scalar.cmpi .eq c8_i32_455 c0_i32_456
  let c1_i32_457 : BitVec 32 := 1#32
  let v662 : BitVec 32 := Scalar.select v661 c1_i32_457 c8_i32_455
  let v663 : BitVec 32 := Scalar.remsi v660 v662
  let c0_i32_459 : BitVec 32 := 0#32
  let v665 : BitVec 1 := Scalar.cmpi .slt v663 c0_i32_459
  let c0_i32_460 : BitVec 32 := 0#32
  let v666 : BitVec 1 := Scalar.cmpi .slt v662 c0_i32_460
  let v667 : BitVec 1 := Scalar.xori v665 v666
  let c0_i32_458 : BitVec 32 := 0#32
  let v664 : BitVec 1 := Scalar.cmpi .ne v663 c0_i32_458
  let v668 : BitVec 1 := Scalar.andi v667 v664
  let v669 : BitVec 32 := Scalar.addi v663 v662
  let v670 : BitVec 32 := Scalar.select v668 v669 v663
  let v682 : BitVec 32 := Scalar.muli c4_i32_468 v670
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_461 : BitVec 32 := 0#32
  let v671 : BitVec 32 := Scalar.addi v29 c0_i32_461
  let c4_i32_462 : BitVec 32 := 4#32
  let c0_i32_463 : BitVec 32 := 0#32
  let v672 : BitVec 1 := Scalar.cmpi .eq c4_i32_462 c0_i32_463
  let c1_i32_464 : BitVec 32 := 1#32
  let v673 : BitVec 32 := Scalar.select v672 c1_i32_464 c4_i32_462
  let v674 : BitVec 32 := Scalar.remsi v671 v673
  let c0_i32_466 : BitVec 32 := 0#32
  let v676 : BitVec 1 := Scalar.cmpi .slt v674 c0_i32_466
  let c0_i32_467 : BitVec 32 := 0#32
  let v677 : BitVec 1 := Scalar.cmpi .slt v673 c0_i32_467
  let v678 : BitVec 1 := Scalar.xori v676 v677
  let c0_i32_465 : BitVec 32 := 0#32
  let v675 : BitVec 1 := Scalar.cmpi .ne v674 c0_i32_465
  let v679 : BitVec 1 := Scalar.andi v678 v675
  let v680 : BitVec 32 := Scalar.addi v674 v673
  let v681 : BitVec 32 := Scalar.select v679 v680 v674
  let v683 : BitVec 32 := Scalar.addi v682 v681
  let c1_i32_477 : BitVec 32 := 1#32
  let v691 : BitVec 32 := Scalar.muli v683 c1_i32_477
  let v692 : BitVec 32 := Scalar.addi c0_i32_478 v691
  v692.toNat
def k0_dev36 (d0 : Dev nD) : Nat :=
  let c0_i32_499 : BitVec 32 := 0#32
  let c4_i32_489 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_454 : BitVec 32 := 1#32
  let v660 : BitVec 32 := Scalar.addi v19 c1_i32_454
  let c8_i32_455 : BitVec 32 := 8#32
  let c0_i32_456 : BitVec 32 := 0#32
  let v661 : BitVec 1 := Scalar.cmpi .eq c8_i32_455 c0_i32_456
  let c1_i32_457 : BitVec 32 := 1#32
  let v662 : BitVec 32 := Scalar.select v661 c1_i32_457 c8_i32_455
  let v663 : BitVec 32 := Scalar.remsi v660 v662
  let c0_i32_459 : BitVec 32 := 0#32
  let v665 : BitVec 1 := Scalar.cmpi .slt v663 c0_i32_459
  let c0_i32_460 : BitVec 32 := 0#32
  let v666 : BitVec 1 := Scalar.cmpi .slt v662 c0_i32_460
  let v667 : BitVec 1 := Scalar.xori v665 v666
  let c0_i32_458 : BitVec 32 := 0#32
  let v664 : BitVec 1 := Scalar.cmpi .ne v663 c0_i32_458
  let v668 : BitVec 1 := Scalar.andi v667 v664
  let v669 : BitVec 32 := Scalar.addi v663 v662
  let v670 : BitVec 32 := Scalar.select v668 v669 v663
  let v711 : BitVec 32 := Scalar.muli c4_i32_489 v670
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_482 : BitVec 32 := 1#32
  let v700 : BitVec 32 := Scalar.addi v29 c1_i32_482
  let c4_i32_483 : BitVec 32 := 4#32
  let c0_i32_484 : BitVec 32 := 0#32
  let v701 : BitVec 1 := Scalar.cmpi .eq c4_i32_483 c0_i32_484
  let c1_i32_485 : BitVec 32 := 1#32
  let v702 : BitVec 32 := Scalar.select v701 c1_i32_485 c4_i32_483
  let v703 : BitVec 32 := Scalar.remsi v700 v702
  let c0_i32_487 : BitVec 32 := 0#32
  let v705 : BitVec 1 := Scalar.cmpi .slt v703 c0_i32_487
  let c0_i32_488 : BitVec 32 := 0#32
  let v706 : BitVec 1 := Scalar.cmpi .slt v702 c0_i32_488
  let v707 : BitVec 1 := Scalar.xori v705 v706
  let c0_i32_486 : BitVec 32 := 0#32
  let v704 : BitVec 1 := Scalar.cmpi .ne v703 c0_i32_486
  let v708 : BitVec 1 := Scalar.andi v707 v704
  let v709 : BitVec 32 := Scalar.addi v703 v702
  let v710 : BitVec 32 := Scalar.select v708 v709 v703
  let v712 : BitVec 32 := Scalar.addi v711 v710
  let c1_i32_498 : BitVec 32 := 1#32
  let v720 : BitVec 32 := Scalar.muli v712 c1_i32_498
  let v721 : BitVec 32 := Scalar.addi c0_i32_499 v720
  v721.toNat
def k0_dev37 (d0 : Dev nD) : Nat :=
  let c0_i32_520 : BitVec 32 := 0#32
  let c4_i32_510 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_454 : BitVec 32 := 1#32
  let v660 : BitVec 32 := Scalar.addi v19 c1_i32_454
  let c8_i32_455 : BitVec 32 := 8#32
  let c0_i32_456 : BitVec 32 := 0#32
  let v661 : BitVec 1 := Scalar.cmpi .eq c8_i32_455 c0_i32_456
  let c1_i32_457 : BitVec 32 := 1#32
  let v662 : BitVec 32 := Scalar.select v661 c1_i32_457 c8_i32_455
  let v663 : BitVec 32 := Scalar.remsi v660 v662
  let c0_i32_459 : BitVec 32 := 0#32
  let v665 : BitVec 1 := Scalar.cmpi .slt v663 c0_i32_459
  let c0_i32_460 : BitVec 32 := 0#32
  let v666 : BitVec 1 := Scalar.cmpi .slt v662 c0_i32_460
  let v667 : BitVec 1 := Scalar.xori v665 v666
  let c0_i32_458 : BitVec 32 := 0#32
  let v664 : BitVec 1 := Scalar.cmpi .ne v663 c0_i32_458
  let v668 : BitVec 1 := Scalar.andi v667 v664
  let v669 : BitVec 32 := Scalar.addi v663 v662
  let v670 : BitVec 32 := Scalar.select v668 v669 v663
  let v740 : BitVec 32 := Scalar.muli c4_i32_510 v670
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_503 : BitVec 32 := 2#32
  let v729 : BitVec 32 := Scalar.addi v29 c2_i32_503
  let c4_i32_504 : BitVec 32 := 4#32
  let c0_i32_505 : BitVec 32 := 0#32
  let v730 : BitVec 1 := Scalar.cmpi .eq c4_i32_504 c0_i32_505
  let c1_i32_506 : BitVec 32 := 1#32
  let v731 : BitVec 32 := Scalar.select v730 c1_i32_506 c4_i32_504
  let v732 : BitVec 32 := Scalar.remsi v729 v731
  let c0_i32_508 : BitVec 32 := 0#32
  let v734 : BitVec 1 := Scalar.cmpi .slt v732 c0_i32_508
  let c0_i32_509 : BitVec 32 := 0#32
  let v735 : BitVec 1 := Scalar.cmpi .slt v731 c0_i32_509
  let v736 : BitVec 1 := Scalar.xori v734 v735
  let c0_i32_507 : BitVec 32 := 0#32
  let v733 : BitVec 1 := Scalar.cmpi .ne v732 c0_i32_507
  let v737 : BitVec 1 := Scalar.andi v736 v733
  let v738 : BitVec 32 := Scalar.addi v732 v731
  let v739 : BitVec 32 := Scalar.select v737 v738 v732
  let v741 : BitVec 32 := Scalar.addi v740 v739
  let c1_i32_519 : BitVec 32 := 1#32
  let v749 : BitVec 32 := Scalar.muli v741 c1_i32_519
  let v750 : BitVec 32 := Scalar.addi c0_i32_520 v749
  v750.toNat
def k0_dev38 (d0 : Dev nD) : Nat :=
  let c0_i32_541 : BitVec 32 := 0#32
  let c4_i32_531 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_454 : BitVec 32 := 1#32
  let v660 : BitVec 32 := Scalar.addi v19 c1_i32_454
  let c8_i32_455 : BitVec 32 := 8#32
  let c0_i32_456 : BitVec 32 := 0#32
  let v661 : BitVec 1 := Scalar.cmpi .eq c8_i32_455 c0_i32_456
  let c1_i32_457 : BitVec 32 := 1#32
  let v662 : BitVec 32 := Scalar.select v661 c1_i32_457 c8_i32_455
  let v663 : BitVec 32 := Scalar.remsi v660 v662
  let c0_i32_459 : BitVec 32 := 0#32
  let v665 : BitVec 1 := Scalar.cmpi .slt v663 c0_i32_459
  let c0_i32_460 : BitVec 32 := 0#32
  let v666 : BitVec 1 := Scalar.cmpi .slt v662 c0_i32_460
  let v667 : BitVec 1 := Scalar.xori v665 v666
  let c0_i32_458 : BitVec 32 := 0#32
  let v664 : BitVec 1 := Scalar.cmpi .ne v663 c0_i32_458
  let v668 : BitVec 1 := Scalar.andi v667 v664
  let v669 : BitVec 32 := Scalar.addi v663 v662
  let v670 : BitVec 32 := Scalar.select v668 v669 v663
  let v769 : BitVec 32 := Scalar.muli c4_i32_531 v670
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_524 : BitVec 32 := 3#32
  let v758 : BitVec 32 := Scalar.addi v29 c3_i32_524
  let c4_i32_525 : BitVec 32 := 4#32
  let c0_i32_526 : BitVec 32 := 0#32
  let v759 : BitVec 1 := Scalar.cmpi .eq c4_i32_525 c0_i32_526
  let c1_i32_527 : BitVec 32 := 1#32
  let v760 : BitVec 32 := Scalar.select v759 c1_i32_527 c4_i32_525
  let v761 : BitVec 32 := Scalar.remsi v758 v760
  let c0_i32_529 : BitVec 32 := 0#32
  let v763 : BitVec 1 := Scalar.cmpi .slt v761 c0_i32_529
  let c0_i32_530 : BitVec 32 := 0#32
  let v764 : BitVec 1 := Scalar.cmpi .slt v760 c0_i32_530
  let v765 : BitVec 1 := Scalar.xori v763 v764
  let c0_i32_528 : BitVec 32 := 0#32
  let v762 : BitVec 1 := Scalar.cmpi .ne v761 c0_i32_528
  let v766 : BitVec 1 := Scalar.andi v765 v762
  let v767 : BitVec 32 := Scalar.addi v761 v760
  let v768 : BitVec 32 := Scalar.select v766 v767 v761
  let v770 : BitVec 32 := Scalar.addi v769 v768
  let c1_i32_540 : BitVec 32 := 1#32
  let v778 : BitVec 32 := Scalar.muli v770 c1_i32_540
  let v779 : BitVec 32 := Scalar.addi c0_i32_541 v778
  v779.toNat
def k0_dev39 (d0 : Dev nD) : Nat :=
  let c0_i32_603 : BitVec 32 := 0#32
  let c4_i32_593 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_579 : BitVec 32 := 2#32
  let v830 : BitVec 32 := Scalar.addi v19 c2_i32_579
  let c8_i32_580 : BitVec 32 := 8#32
  let c0_i32_581 : BitVec 32 := 0#32
  let v831 : BitVec 1 := Scalar.cmpi .eq c8_i32_580 c0_i32_581
  let c1_i32_582 : BitVec 32 := 1#32
  let v832 : BitVec 32 := Scalar.select v831 c1_i32_582 c8_i32_580
  let v833 : BitVec 32 := Scalar.remsi v830 v832
  let c0_i32_584 : BitVec 32 := 0#32
  let v835 : BitVec 1 := Scalar.cmpi .slt v833 c0_i32_584
  let c0_i32_585 : BitVec 32 := 0#32
  let v836 : BitVec 1 := Scalar.cmpi .slt v832 c0_i32_585
  let v837 : BitVec 1 := Scalar.xori v835 v836
  let c0_i32_583 : BitVec 32 := 0#32
  let v834 : BitVec 1 := Scalar.cmpi .ne v833 c0_i32_583
  let v838 : BitVec 1 := Scalar.andi v837 v834
  let v839 : BitVec 32 := Scalar.addi v833 v832
  let v840 : BitVec 32 := Scalar.select v838 v839 v833
  let v852 : BitVec 32 := Scalar.muli c4_i32_593 v840
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_586 : BitVec 32 := 0#32
  let v841 : BitVec 32 := Scalar.addi v29 c0_i32_586
  let c4_i32_587 : BitVec 32 := 4#32
  let c0_i32_588 : BitVec 32 := 0#32
  let v842 : BitVec 1 := Scalar.cmpi .eq c4_i32_587 c0_i32_588
  let c1_i32_589 : BitVec 32 := 1#32
  let v843 : BitVec 32 := Scalar.select v842 c1_i32_589 c4_i32_587
  let v844 : BitVec 32 := Scalar.remsi v841 v843
  let c0_i32_591 : BitVec 32 := 0#32
  let v846 : BitVec 1 := Scalar.cmpi .slt v844 c0_i32_591
  let c0_i32_592 : BitVec 32 := 0#32
  let v847 : BitVec 1 := Scalar.cmpi .slt v843 c0_i32_592
  let v848 : BitVec 1 := Scalar.xori v846 v847
  let c0_i32_590 : BitVec 32 := 0#32
  let v845 : BitVec 1 := Scalar.cmpi .ne v844 c0_i32_590
  let v849 : BitVec 1 := Scalar.andi v848 v845
  let v850 : BitVec 32 := Scalar.addi v844 v843
  let v851 : BitVec 32 := Scalar.select v849 v850 v844
  let v853 : BitVec 32 := Scalar.addi v852 v851
  let c1_i32_602 : BitVec 32 := 1#32
  let v861 : BitVec 32 := Scalar.muli v853 c1_i32_602
  let v862 : BitVec 32 := Scalar.addi c0_i32_603 v861
  v862.toNat
def k0_dev40 (d0 : Dev nD) : Nat :=
  let c0_i32_624 : BitVec 32 := 0#32
  let c4_i32_614 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_579 : BitVec 32 := 2#32
  let v830 : BitVec 32 := Scalar.addi v19 c2_i32_579
  let c8_i32_580 : BitVec 32 := 8#32
  let c0_i32_581 : BitVec 32 := 0#32
  let v831 : BitVec 1 := Scalar.cmpi .eq c8_i32_580 c0_i32_581
  let c1_i32_582 : BitVec 32 := 1#32
  let v832 : BitVec 32 := Scalar.select v831 c1_i32_582 c8_i32_580
  let v833 : BitVec 32 := Scalar.remsi v830 v832
  let c0_i32_584 : BitVec 32 := 0#32
  let v835 : BitVec 1 := Scalar.cmpi .slt v833 c0_i32_584
  let c0_i32_585 : BitVec 32 := 0#32
  let v836 : BitVec 1 := Scalar.cmpi .slt v832 c0_i32_585
  let v837 : BitVec 1 := Scalar.xori v835 v836
  let c0_i32_583 : BitVec 32 := 0#32
  let v834 : BitVec 1 := Scalar.cmpi .ne v833 c0_i32_583
  let v838 : BitVec 1 := Scalar.andi v837 v834
  let v839 : BitVec 32 := Scalar.addi v833 v832
  let v840 : BitVec 32 := Scalar.select v838 v839 v833
  let v881 : BitVec 32 := Scalar.muli c4_i32_614 v840
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_607 : BitVec 32 := 1#32
  let v870 : BitVec 32 := Scalar.addi v29 c1_i32_607
  let c4_i32_608 : BitVec 32 := 4#32
  let c0_i32_609 : BitVec 32 := 0#32
  let v871 : BitVec 1 := Scalar.cmpi .eq c4_i32_608 c0_i32_609
  let c1_i32_610 : BitVec 32 := 1#32
  let v872 : BitVec 32 := Scalar.select v871 c1_i32_610 c4_i32_608
  let v873 : BitVec 32 := Scalar.remsi v870 v872
  let c0_i32_612 : BitVec 32 := 0#32
  let v875 : BitVec 1 := Scalar.cmpi .slt v873 c0_i32_612
  let c0_i32_613 : BitVec 32 := 0#32
  let v876 : BitVec 1 := Scalar.cmpi .slt v872 c0_i32_613
  let v877 : BitVec 1 := Scalar.xori v875 v876
  let c0_i32_611 : BitVec 32 := 0#32
  let v874 : BitVec 1 := Scalar.cmpi .ne v873 c0_i32_611
  let v878 : BitVec 1 := Scalar.andi v877 v874
  let v879 : BitVec 32 := Scalar.addi v873 v872
  let v880 : BitVec 32 := Scalar.select v878 v879 v873
  let v882 : BitVec 32 := Scalar.addi v881 v880
  let c1_i32_623 : BitVec 32 := 1#32
  let v890 : BitVec 32 := Scalar.muli v882 c1_i32_623
  let v891 : BitVec 32 := Scalar.addi c0_i32_624 v890
  v891.toNat
def k0_dev41 (d0 : Dev nD) : Nat :=
  let c0_i32_645 : BitVec 32 := 0#32
  let c4_i32_635 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_579 : BitVec 32 := 2#32
  let v830 : BitVec 32 := Scalar.addi v19 c2_i32_579
  let c8_i32_580 : BitVec 32 := 8#32
  let c0_i32_581 : BitVec 32 := 0#32
  let v831 : BitVec 1 := Scalar.cmpi .eq c8_i32_580 c0_i32_581
  let c1_i32_582 : BitVec 32 := 1#32
  let v832 : BitVec 32 := Scalar.select v831 c1_i32_582 c8_i32_580
  let v833 : BitVec 32 := Scalar.remsi v830 v832
  let c0_i32_584 : BitVec 32 := 0#32
  let v835 : BitVec 1 := Scalar.cmpi .slt v833 c0_i32_584
  let c0_i32_585 : BitVec 32 := 0#32
  let v836 : BitVec 1 := Scalar.cmpi .slt v832 c0_i32_585
  let v837 : BitVec 1 := Scalar.xori v835 v836
  let c0_i32_583 : BitVec 32 := 0#32
  let v834 : BitVec 1 := Scalar.cmpi .ne v833 c0_i32_583
  let v838 : BitVec 1 := Scalar.andi v837 v834
  let v839 : BitVec 32 := Scalar.addi v833 v832
  let v840 : BitVec 32 := Scalar.select v838 v839 v833
  let v910 : BitVec 32 := Scalar.muli c4_i32_635 v840
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_628 : BitVec 32 := 2#32
  let v899 : BitVec 32 := Scalar.addi v29 c2_i32_628
  let c4_i32_629 : BitVec 32 := 4#32
  let c0_i32_630 : BitVec 32 := 0#32
  let v900 : BitVec 1 := Scalar.cmpi .eq c4_i32_629 c0_i32_630
  let c1_i32_631 : BitVec 32 := 1#32
  let v901 : BitVec 32 := Scalar.select v900 c1_i32_631 c4_i32_629
  let v902 : BitVec 32 := Scalar.remsi v899 v901
  let c0_i32_633 : BitVec 32 := 0#32
  let v904 : BitVec 1 := Scalar.cmpi .slt v902 c0_i32_633
  let c0_i32_634 : BitVec 32 := 0#32
  let v905 : BitVec 1 := Scalar.cmpi .slt v901 c0_i32_634
  let v906 : BitVec 1 := Scalar.xori v904 v905
  let c0_i32_632 : BitVec 32 := 0#32
  let v903 : BitVec 1 := Scalar.cmpi .ne v902 c0_i32_632
  let v907 : BitVec 1 := Scalar.andi v906 v903
  let v908 : BitVec 32 := Scalar.addi v902 v901
  let v909 : BitVec 32 := Scalar.select v907 v908 v902
  let v911 : BitVec 32 := Scalar.addi v910 v909
  let c1_i32_644 : BitVec 32 := 1#32
  let v919 : BitVec 32 := Scalar.muli v911 c1_i32_644
  let v920 : BitVec 32 := Scalar.addi c0_i32_645 v919
  v920.toNat
def k0_dev42 (d0 : Dev nD) : Nat :=
  let c0_i32_666 : BitVec 32 := 0#32
  let c4_i32_656 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_579 : BitVec 32 := 2#32
  let v830 : BitVec 32 := Scalar.addi v19 c2_i32_579
  let c8_i32_580 : BitVec 32 := 8#32
  let c0_i32_581 : BitVec 32 := 0#32
  let v831 : BitVec 1 := Scalar.cmpi .eq c8_i32_580 c0_i32_581
  let c1_i32_582 : BitVec 32 := 1#32
  let v832 : BitVec 32 := Scalar.select v831 c1_i32_582 c8_i32_580
  let v833 : BitVec 32 := Scalar.remsi v830 v832
  let c0_i32_584 : BitVec 32 := 0#32
  let v835 : BitVec 1 := Scalar.cmpi .slt v833 c0_i32_584
  let c0_i32_585 : BitVec 32 := 0#32
  let v836 : BitVec 1 := Scalar.cmpi .slt v832 c0_i32_585
  let v837 : BitVec 1 := Scalar.xori v835 v836
  let c0_i32_583 : BitVec 32 := 0#32
  let v834 : BitVec 1 := Scalar.cmpi .ne v833 c0_i32_583
  let v838 : BitVec 1 := Scalar.andi v837 v834
  let v839 : BitVec 32 := Scalar.addi v833 v832
  let v840 : BitVec 32 := Scalar.select v838 v839 v833
  let v939 : BitVec 32 := Scalar.muli c4_i32_656 v840
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_649 : BitVec 32 := 3#32
  let v928 : BitVec 32 := Scalar.addi v29 c3_i32_649
  let c4_i32_650 : BitVec 32 := 4#32
  let c0_i32_651 : BitVec 32 := 0#32
  let v929 : BitVec 1 := Scalar.cmpi .eq c4_i32_650 c0_i32_651
  let c1_i32_652 : BitVec 32 := 1#32
  let v930 : BitVec 32 := Scalar.select v929 c1_i32_652 c4_i32_650
  let v931 : BitVec 32 := Scalar.remsi v928 v930
  let c0_i32_654 : BitVec 32 := 0#32
  let v933 : BitVec 1 := Scalar.cmpi .slt v931 c0_i32_654
  let c0_i32_655 : BitVec 32 := 0#32
  let v934 : BitVec 1 := Scalar.cmpi .slt v930 c0_i32_655
  let v935 : BitVec 1 := Scalar.xori v933 v934
  let c0_i32_653 : BitVec 32 := 0#32
  let v932 : BitVec 1 := Scalar.cmpi .ne v931 c0_i32_653
  let v936 : BitVec 1 := Scalar.andi v935 v932
  let v937 : BitVec 32 := Scalar.addi v931 v930
  let v938 : BitVec 32 := Scalar.select v936 v937 v931
  let v940 : BitVec 32 := Scalar.addi v939 v938
  let c1_i32_665 : BitVec 32 := 1#32
  let v948 : BitVec 32 := Scalar.muli v940 c1_i32_665
  let v949 : BitVec 32 := Scalar.addi c0_i32_666 v948
  v949.toNat
def k0_dev43 (d0 : Dev nD) : Nat :=
  let c0_i32_728 : BitVec 32 := 0#32
  let c4_i32_718 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_704 : BitVec 32 := 3#32
  let v1000 : BitVec 32 := Scalar.addi v19 c3_i32_704
  let c8_i32_705 : BitVec 32 := 8#32
  let c0_i32_706 : BitVec 32 := 0#32
  let v1001 : BitVec 1 := Scalar.cmpi .eq c8_i32_705 c0_i32_706
  let c1_i32_707 : BitVec 32 := 1#32
  let v1002 : BitVec 32 := Scalar.select v1001 c1_i32_707 c8_i32_705
  let v1003 : BitVec 32 := Scalar.remsi v1000 v1002
  let c0_i32_709 : BitVec 32 := 0#32
  let v1005 : BitVec 1 := Scalar.cmpi .slt v1003 c0_i32_709
  let c0_i32_710 : BitVec 32 := 0#32
  let v1006 : BitVec 1 := Scalar.cmpi .slt v1002 c0_i32_710
  let v1007 : BitVec 1 := Scalar.xori v1005 v1006
  let c0_i32_708 : BitVec 32 := 0#32
  let v1004 : BitVec 1 := Scalar.cmpi .ne v1003 c0_i32_708
  let v1008 : BitVec 1 := Scalar.andi v1007 v1004
  let v1009 : BitVec 32 := Scalar.addi v1003 v1002
  let v1010 : BitVec 32 := Scalar.select v1008 v1009 v1003
  let v1022 : BitVec 32 := Scalar.muli c4_i32_718 v1010
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_711 : BitVec 32 := 0#32
  let v1011 : BitVec 32 := Scalar.addi v29 c0_i32_711
  let c4_i32_712 : BitVec 32 := 4#32
  let c0_i32_713 : BitVec 32 := 0#32
  let v1012 : BitVec 1 := Scalar.cmpi .eq c4_i32_712 c0_i32_713
  let c1_i32_714 : BitVec 32 := 1#32
  let v1013 : BitVec 32 := Scalar.select v1012 c1_i32_714 c4_i32_712
  let v1014 : BitVec 32 := Scalar.remsi v1011 v1013
  let c0_i32_716 : BitVec 32 := 0#32
  let v1016 : BitVec 1 := Scalar.cmpi .slt v1014 c0_i32_716
  let c0_i32_717 : BitVec 32 := 0#32
  let v1017 : BitVec 1 := Scalar.cmpi .slt v1013 c0_i32_717
  let v1018 : BitVec 1 := Scalar.xori v1016 v1017
  let c0_i32_715 : BitVec 32 := 0#32
  let v1015 : BitVec 1 := Scalar.cmpi .ne v1014 c0_i32_715
  let v1019 : BitVec 1 := Scalar.andi v1018 v1015
  let v1020 : BitVec 32 := Scalar.addi v1014 v1013
  let v1021 : BitVec 32 := Scalar.select v1019 v1020 v1014
  let v1023 : BitVec 32 := Scalar.addi v1022 v1021
  let c1_i32_727 : BitVec 32 := 1#32
  let v1031 : BitVec 32 := Scalar.muli v1023 c1_i32_727
  let v1032 : BitVec 32 := Scalar.addi c0_i32_728 v1031
  v1032.toNat
def k0_dev44 (d0 : Dev nD) : Nat :=
  let c0_i32_749 : BitVec 32 := 0#32
  let c4_i32_739 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_704 : BitVec 32 := 3#32
  let v1000 : BitVec 32 := Scalar.addi v19 c3_i32_704
  let c8_i32_705 : BitVec 32 := 8#32
  let c0_i32_706 : BitVec 32 := 0#32
  let v1001 : BitVec 1 := Scalar.cmpi .eq c8_i32_705 c0_i32_706
  let c1_i32_707 : BitVec 32 := 1#32
  let v1002 : BitVec 32 := Scalar.select v1001 c1_i32_707 c8_i32_705
  let v1003 : BitVec 32 := Scalar.remsi v1000 v1002
  let c0_i32_709 : BitVec 32 := 0#32
  let v1005 : BitVec 1 := Scalar.cmpi .slt v1003 c0_i32_709
  let c0_i32_710 : BitVec 32 := 0#32
  let v1006 : BitVec 1 := Scalar.cmpi .slt v1002 c0_i32_710
  let v1007 : BitVec 1 := Scalar.xori v1005 v1006
  let c0_i32_708 : BitVec 32 := 0#32
  let v1004 : BitVec 1 := Scalar.cmpi .ne v1003 c0_i32_708
  let v1008 : BitVec 1 := Scalar.andi v1007 v1004
  let v1009 : BitVec 32 := Scalar.addi v1003 v1002
  let v1010 : BitVec 32 := Scalar.select v1008 v1009 v1003
  let v1051 : BitVec 32 := Scalar.muli c4_i32_739 v1010
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_732 : BitVec 32 := 1#32
  let v1040 : BitVec 32 := Scalar.addi v29 c1_i32_732
  let c4_i32_733 : BitVec 32 := 4#32
  let c0_i32_734 : BitVec 32 := 0#32
  let v1041 : BitVec 1 := Scalar.cmpi .eq c4_i32_733 c0_i32_734
  let c1_i32_735 : BitVec 32 := 1#32
  let v1042 : BitVec 32 := Scalar.select v1041 c1_i32_735 c4_i32_733
  let v1043 : BitVec 32 := Scalar.remsi v1040 v1042
  let c0_i32_737 : BitVec 32 := 0#32
  let v1045 : BitVec 1 := Scalar.cmpi .slt v1043 c0_i32_737
  let c0_i32_738 : BitVec 32 := 0#32
  let v1046 : BitVec 1 := Scalar.cmpi .slt v1042 c0_i32_738
  let v1047 : BitVec 1 := Scalar.xori v1045 v1046
  let c0_i32_736 : BitVec 32 := 0#32
  let v1044 : BitVec 1 := Scalar.cmpi .ne v1043 c0_i32_736
  let v1048 : BitVec 1 := Scalar.andi v1047 v1044
  let v1049 : BitVec 32 := Scalar.addi v1043 v1042
  let v1050 : BitVec 32 := Scalar.select v1048 v1049 v1043
  let v1052 : BitVec 32 := Scalar.addi v1051 v1050
  let c1_i32_748 : BitVec 32 := 1#32
  let v1060 : BitVec 32 := Scalar.muli v1052 c1_i32_748
  let v1061 : BitVec 32 := Scalar.addi c0_i32_749 v1060
  v1061.toNat
def k0_dev45 (d0 : Dev nD) : Nat :=
  let c0_i32_770 : BitVec 32 := 0#32
  let c4_i32_760 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_704 : BitVec 32 := 3#32
  let v1000 : BitVec 32 := Scalar.addi v19 c3_i32_704
  let c8_i32_705 : BitVec 32 := 8#32
  let c0_i32_706 : BitVec 32 := 0#32
  let v1001 : BitVec 1 := Scalar.cmpi .eq c8_i32_705 c0_i32_706
  let c1_i32_707 : BitVec 32 := 1#32
  let v1002 : BitVec 32 := Scalar.select v1001 c1_i32_707 c8_i32_705
  let v1003 : BitVec 32 := Scalar.remsi v1000 v1002
  let c0_i32_709 : BitVec 32 := 0#32
  let v1005 : BitVec 1 := Scalar.cmpi .slt v1003 c0_i32_709
  let c0_i32_710 : BitVec 32 := 0#32
  let v1006 : BitVec 1 := Scalar.cmpi .slt v1002 c0_i32_710
  let v1007 : BitVec 1 := Scalar.xori v1005 v1006
  let c0_i32_708 : BitVec 32 := 0#32
  let v1004 : BitVec 1 := Scalar.cmpi .ne v1003 c0_i32_708
  let v1008 : BitVec 1 := Scalar.andi v1007 v1004
  let v1009 : BitVec 32 := Scalar.addi v1003 v1002
  let v1010 : BitVec 32 := Scalar.select v1008 v1009 v1003
  let v1080 : BitVec 32 := Scalar.muli c4_i32_760 v1010
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_753 : BitVec 32 := 2#32
  let v1069 : BitVec 32 := Scalar.addi v29 c2_i32_753
  let c4_i32_754 : BitVec 32 := 4#32
  let c0_i32_755 : BitVec 32 := 0#32
  let v1070 : BitVec 1 := Scalar.cmpi .eq c4_i32_754 c0_i32_755
  let c1_i32_756 : BitVec 32 := 1#32
  let v1071 : BitVec 32 := Scalar.select v1070 c1_i32_756 c4_i32_754
  let v1072 : BitVec 32 := Scalar.remsi v1069 v1071
  let c0_i32_758 : BitVec 32 := 0#32
  let v1074 : BitVec 1 := Scalar.cmpi .slt v1072 c0_i32_758
  let c0_i32_759 : BitVec 32 := 0#32
  let v1075 : BitVec 1 := Scalar.cmpi .slt v1071 c0_i32_759
  let v1076 : BitVec 1 := Scalar.xori v1074 v1075
  let c0_i32_757 : BitVec 32 := 0#32
  let v1073 : BitVec 1 := Scalar.cmpi .ne v1072 c0_i32_757
  let v1077 : BitVec 1 := Scalar.andi v1076 v1073
  let v1078 : BitVec 32 := Scalar.addi v1072 v1071
  let v1079 : BitVec 32 := Scalar.select v1077 v1078 v1072
  let v1081 : BitVec 32 := Scalar.addi v1080 v1079
  let c1_i32_769 : BitVec 32 := 1#32
  let v1089 : BitVec 32 := Scalar.muli v1081 c1_i32_769
  let v1090 : BitVec 32 := Scalar.addi c0_i32_770 v1089
  v1090.toNat
def k0_dev46 (d0 : Dev nD) : Nat :=
  let c0_i32_791 : BitVec 32 := 0#32
  let c4_i32_781 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_704 : BitVec 32 := 3#32
  let v1000 : BitVec 32 := Scalar.addi v19 c3_i32_704
  let c8_i32_705 : BitVec 32 := 8#32
  let c0_i32_706 : BitVec 32 := 0#32
  let v1001 : BitVec 1 := Scalar.cmpi .eq c8_i32_705 c0_i32_706
  let c1_i32_707 : BitVec 32 := 1#32
  let v1002 : BitVec 32 := Scalar.select v1001 c1_i32_707 c8_i32_705
  let v1003 : BitVec 32 := Scalar.remsi v1000 v1002
  let c0_i32_709 : BitVec 32 := 0#32
  let v1005 : BitVec 1 := Scalar.cmpi .slt v1003 c0_i32_709
  let c0_i32_710 : BitVec 32 := 0#32
  let v1006 : BitVec 1 := Scalar.cmpi .slt v1002 c0_i32_710
  let v1007 : BitVec 1 := Scalar.xori v1005 v1006
  let c0_i32_708 : BitVec 32 := 0#32
  let v1004 : BitVec 1 := Scalar.cmpi .ne v1003 c0_i32_708
  let v1008 : BitVec 1 := Scalar.andi v1007 v1004
  let v1009 : BitVec 32 := Scalar.addi v1003 v1002
  let v1010 : BitVec 32 := Scalar.select v1008 v1009 v1003
  let v1109 : BitVec 32 := Scalar.muli c4_i32_781 v1010
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_774 : BitVec 32 := 3#32
  let v1098 : BitVec 32 := Scalar.addi v29 c3_i32_774
  let c4_i32_775 : BitVec 32 := 4#32
  let c0_i32_776 : BitVec 32 := 0#32
  let v1099 : BitVec 1 := Scalar.cmpi .eq c4_i32_775 c0_i32_776
  let c1_i32_777 : BitVec 32 := 1#32
  let v1100 : BitVec 32 := Scalar.select v1099 c1_i32_777 c4_i32_775
  let v1101 : BitVec 32 := Scalar.remsi v1098 v1100
  let c0_i32_779 : BitVec 32 := 0#32
  let v1103 : BitVec 1 := Scalar.cmpi .slt v1101 c0_i32_779
  let c0_i32_780 : BitVec 32 := 0#32
  let v1104 : BitVec 1 := Scalar.cmpi .slt v1100 c0_i32_780
  let v1105 : BitVec 1 := Scalar.xori v1103 v1104
  let c0_i32_778 : BitVec 32 := 0#32
  let v1102 : BitVec 1 := Scalar.cmpi .ne v1101 c0_i32_778
  let v1106 : BitVec 1 := Scalar.andi v1105 v1102
  let v1107 : BitVec 32 := Scalar.addi v1101 v1100
  let v1108 : BitVec 32 := Scalar.select v1106 v1107 v1101
  let v1110 : BitVec 32 := Scalar.addi v1109 v1108
  let c1_i32_790 : BitVec 32 := 1#32
  let v1118 : BitVec 32 := Scalar.muli v1110 c1_i32_790
  let v1119 : BitVec 32 := Scalar.addi c0_i32_791 v1118
  v1119.toNat
def k0_dev47 (d0 : Dev nD) : Nat :=
  let c0_i32_853 : BitVec 32 := 0#32
  let c4_i32_843 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_829 : BitVec 32 := 4#32
  let v1170 : BitVec 32 := Scalar.addi v19 c4_i32_829
  let c8_i32_830 : BitVec 32 := 8#32
  let c0_i32_831 : BitVec 32 := 0#32
  let v1171 : BitVec 1 := Scalar.cmpi .eq c8_i32_830 c0_i32_831
  let c1_i32_832 : BitVec 32 := 1#32
  let v1172 : BitVec 32 := Scalar.select v1171 c1_i32_832 c8_i32_830
  let v1173 : BitVec 32 := Scalar.remsi v1170 v1172
  let c0_i32_834 : BitVec 32 := 0#32
  let v1175 : BitVec 1 := Scalar.cmpi .slt v1173 c0_i32_834
  let c0_i32_835 : BitVec 32 := 0#32
  let v1176 : BitVec 1 := Scalar.cmpi .slt v1172 c0_i32_835
  let v1177 : BitVec 1 := Scalar.xori v1175 v1176
  let c0_i32_833 : BitVec 32 := 0#32
  let v1174 : BitVec 1 := Scalar.cmpi .ne v1173 c0_i32_833
  let v1178 : BitVec 1 := Scalar.andi v1177 v1174
  let v1179 : BitVec 32 := Scalar.addi v1173 v1172
  let v1180 : BitVec 32 := Scalar.select v1178 v1179 v1173
  let v1192 : BitVec 32 := Scalar.muli c4_i32_843 v1180
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_836 : BitVec 32 := 0#32
  let v1181 : BitVec 32 := Scalar.addi v29 c0_i32_836
  let c4_i32_837 : BitVec 32 := 4#32
  let c0_i32_838 : BitVec 32 := 0#32
  let v1182 : BitVec 1 := Scalar.cmpi .eq c4_i32_837 c0_i32_838
  let c1_i32_839 : BitVec 32 := 1#32
  let v1183 : BitVec 32 := Scalar.select v1182 c1_i32_839 c4_i32_837
  let v1184 : BitVec 32 := Scalar.remsi v1181 v1183
  let c0_i32_841 : BitVec 32 := 0#32
  let v1186 : BitVec 1 := Scalar.cmpi .slt v1184 c0_i32_841
  let c0_i32_842 : BitVec 32 := 0#32
  let v1187 : BitVec 1 := Scalar.cmpi .slt v1183 c0_i32_842
  let v1188 : BitVec 1 := Scalar.xori v1186 v1187
  let c0_i32_840 : BitVec 32 := 0#32
  let v1185 : BitVec 1 := Scalar.cmpi .ne v1184 c0_i32_840
  let v1189 : BitVec 1 := Scalar.andi v1188 v1185
  let v1190 : BitVec 32 := Scalar.addi v1184 v1183
  let v1191 : BitVec 32 := Scalar.select v1189 v1190 v1184
  let v1193 : BitVec 32 := Scalar.addi v1192 v1191
  let c1_i32_852 : BitVec 32 := 1#32
  let v1201 : BitVec 32 := Scalar.muli v1193 c1_i32_852
  let v1202 : BitVec 32 := Scalar.addi c0_i32_853 v1201
  v1202.toNat
def k0_dev48 (d0 : Dev nD) : Nat :=
  let c0_i32_874 : BitVec 32 := 0#32
  let c4_i32_864 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_829 : BitVec 32 := 4#32
  let v1170 : BitVec 32 := Scalar.addi v19 c4_i32_829
  let c8_i32_830 : BitVec 32 := 8#32
  let c0_i32_831 : BitVec 32 := 0#32
  let v1171 : BitVec 1 := Scalar.cmpi .eq c8_i32_830 c0_i32_831
  let c1_i32_832 : BitVec 32 := 1#32
  let v1172 : BitVec 32 := Scalar.select v1171 c1_i32_832 c8_i32_830
  let v1173 : BitVec 32 := Scalar.remsi v1170 v1172
  let c0_i32_834 : BitVec 32 := 0#32
  let v1175 : BitVec 1 := Scalar.cmpi .slt v1173 c0_i32_834
  let c0_i32_835 : BitVec 32 := 0#32
  let v1176 : BitVec 1 := Scalar.cmpi .slt v1172 c0_i32_835
  let v1177 : BitVec 1 := Scalar.xori v1175 v1176
  let c0_i32_833 : BitVec 32 := 0#32
  let v1174 : BitVec 1 := Scalar.cmpi .ne v1173 c0_i32_833
  let v1178 : BitVec 1 := Scalar.andi v1177 v1174
  let v1179 : BitVec 32 := Scalar.addi v1173 v1172
  let v1180 : BitVec 32 := Scalar.select v1178 v1179 v1173
  let v1221 : BitVec 32 := Scalar.muli c4_i32_864 v1180
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_857 : BitVec 32 := 1#32
  let v1210 : BitVec 32 := Scalar.addi v29 c1_i32_857
  let c4_i32_858 : BitVec 32 := 4#32
  let c0_i32_859 : BitVec 32 := 0#32
  let v1211 : BitVec 1 := Scalar.cmpi .eq c4_i32_858 c0_i32_859
  let c1_i32_860 : BitVec 32 := 1#32
  let v1212 : BitVec 32 := Scalar.select v1211 c1_i32_860 c4_i32_858
  let v1213 : BitVec 32 := Scalar.remsi v1210 v1212
  let c0_i32_862 : BitVec 32 := 0#32
  let v1215 : BitVec 1 := Scalar.cmpi .slt v1213 c0_i32_862
  let c0_i32_863 : BitVec 32 := 0#32
  let v1216 : BitVec 1 := Scalar.cmpi .slt v1212 c0_i32_863
  let v1217 : BitVec 1 := Scalar.xori v1215 v1216
  let c0_i32_861 : BitVec 32 := 0#32
  let v1214 : BitVec 1 := Scalar.cmpi .ne v1213 c0_i32_861
  let v1218 : BitVec 1 := Scalar.andi v1217 v1214
  let v1219 : BitVec 32 := Scalar.addi v1213 v1212
  let v1220 : BitVec 32 := Scalar.select v1218 v1219 v1213
  let v1222 : BitVec 32 := Scalar.addi v1221 v1220
  let c1_i32_873 : BitVec 32 := 1#32
  let v1230 : BitVec 32 := Scalar.muli v1222 c1_i32_873
  let v1231 : BitVec 32 := Scalar.addi c0_i32_874 v1230
  v1231.toNat
def k0_dev49 (d0 : Dev nD) : Nat :=
  let c0_i32_895 : BitVec 32 := 0#32
  let c4_i32_885 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_829 : BitVec 32 := 4#32
  let v1170 : BitVec 32 := Scalar.addi v19 c4_i32_829
  let c8_i32_830 : BitVec 32 := 8#32
  let c0_i32_831 : BitVec 32 := 0#32
  let v1171 : BitVec 1 := Scalar.cmpi .eq c8_i32_830 c0_i32_831
  let c1_i32_832 : BitVec 32 := 1#32
  let v1172 : BitVec 32 := Scalar.select v1171 c1_i32_832 c8_i32_830
  let v1173 : BitVec 32 := Scalar.remsi v1170 v1172
  let c0_i32_834 : BitVec 32 := 0#32
  let v1175 : BitVec 1 := Scalar.cmpi .slt v1173 c0_i32_834
  let c0_i32_835 : BitVec 32 := 0#32
  let v1176 : BitVec 1 := Scalar.cmpi .slt v1172 c0_i32_835
  let v1177 : BitVec 1 := Scalar.xori v1175 v1176
  let c0_i32_833 : BitVec 32 := 0#32
  let v1174 : BitVec 1 := Scalar.cmpi .ne v1173 c0_i32_833
  let v1178 : BitVec 1 := Scalar.andi v1177 v1174
  let v1179 : BitVec 32 := Scalar.addi v1173 v1172
  let v1180 : BitVec 32 := Scalar.select v1178 v1179 v1173
  let v1250 : BitVec 32 := Scalar.muli c4_i32_885 v1180
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_878 : BitVec 32 := 2#32
  let v1239 : BitVec 32 := Scalar.addi v29 c2_i32_878
  let c4_i32_879 : BitVec 32 := 4#32
  let c0_i32_880 : BitVec 32 := 0#32
  let v1240 : BitVec 1 := Scalar.cmpi .eq c4_i32_879 c0_i32_880
  let c1_i32_881 : BitVec 32 := 1#32
  let v1241 : BitVec 32 := Scalar.select v1240 c1_i32_881 c4_i32_879
  let v1242 : BitVec 32 := Scalar.remsi v1239 v1241
  let c0_i32_883 : BitVec 32 := 0#32
  let v1244 : BitVec 1 := Scalar.cmpi .slt v1242 c0_i32_883
  let c0_i32_884 : BitVec 32 := 0#32
  let v1245 : BitVec 1 := Scalar.cmpi .slt v1241 c0_i32_884
  let v1246 : BitVec 1 := Scalar.xori v1244 v1245
  let c0_i32_882 : BitVec 32 := 0#32
  let v1243 : BitVec 1 := Scalar.cmpi .ne v1242 c0_i32_882
  let v1247 : BitVec 1 := Scalar.andi v1246 v1243
  let v1248 : BitVec 32 := Scalar.addi v1242 v1241
  let v1249 : BitVec 32 := Scalar.select v1247 v1248 v1242
  let v1251 : BitVec 32 := Scalar.addi v1250 v1249
  let c1_i32_894 : BitVec 32 := 1#32
  let v1259 : BitVec 32 := Scalar.muli v1251 c1_i32_894
  let v1260 : BitVec 32 := Scalar.addi c0_i32_895 v1259
  v1260.toNat
def k0_dev50 (d0 : Dev nD) : Nat :=
  let c0_i32_916 : BitVec 32 := 0#32
  let c4_i32_906 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_829 : BitVec 32 := 4#32
  let v1170 : BitVec 32 := Scalar.addi v19 c4_i32_829
  let c8_i32_830 : BitVec 32 := 8#32
  let c0_i32_831 : BitVec 32 := 0#32
  let v1171 : BitVec 1 := Scalar.cmpi .eq c8_i32_830 c0_i32_831
  let c1_i32_832 : BitVec 32 := 1#32
  let v1172 : BitVec 32 := Scalar.select v1171 c1_i32_832 c8_i32_830
  let v1173 : BitVec 32 := Scalar.remsi v1170 v1172
  let c0_i32_834 : BitVec 32 := 0#32
  let v1175 : BitVec 1 := Scalar.cmpi .slt v1173 c0_i32_834
  let c0_i32_835 : BitVec 32 := 0#32
  let v1176 : BitVec 1 := Scalar.cmpi .slt v1172 c0_i32_835
  let v1177 : BitVec 1 := Scalar.xori v1175 v1176
  let c0_i32_833 : BitVec 32 := 0#32
  let v1174 : BitVec 1 := Scalar.cmpi .ne v1173 c0_i32_833
  let v1178 : BitVec 1 := Scalar.andi v1177 v1174
  let v1179 : BitVec 32 := Scalar.addi v1173 v1172
  let v1180 : BitVec 32 := Scalar.select v1178 v1179 v1173
  let v1279 : BitVec 32 := Scalar.muli c4_i32_906 v1180
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_899 : BitVec 32 := 3#32
  let v1268 : BitVec 32 := Scalar.addi v29 c3_i32_899
  let c4_i32_900 : BitVec 32 := 4#32
  let c0_i32_901 : BitVec 32 := 0#32
  let v1269 : BitVec 1 := Scalar.cmpi .eq c4_i32_900 c0_i32_901
  let c1_i32_902 : BitVec 32 := 1#32
  let v1270 : BitVec 32 := Scalar.select v1269 c1_i32_902 c4_i32_900
  let v1271 : BitVec 32 := Scalar.remsi v1268 v1270
  let c0_i32_904 : BitVec 32 := 0#32
  let v1273 : BitVec 1 := Scalar.cmpi .slt v1271 c0_i32_904
  let c0_i32_905 : BitVec 32 := 0#32
  let v1274 : BitVec 1 := Scalar.cmpi .slt v1270 c0_i32_905
  let v1275 : BitVec 1 := Scalar.xori v1273 v1274
  let c0_i32_903 : BitVec 32 := 0#32
  let v1272 : BitVec 1 := Scalar.cmpi .ne v1271 c0_i32_903
  let v1276 : BitVec 1 := Scalar.andi v1275 v1272
  let v1277 : BitVec 32 := Scalar.addi v1271 v1270
  let v1278 : BitVec 32 := Scalar.select v1276 v1277 v1271
  let v1280 : BitVec 32 := Scalar.addi v1279 v1278
  let c1_i32_915 : BitVec 32 := 1#32
  let v1288 : BitVec 32 := Scalar.muli v1280 c1_i32_915
  let v1289 : BitVec 32 := Scalar.addi c0_i32_916 v1288
  v1289.toNat
def k0_dev51 (d0 : Dev nD) : Nat :=
  let c0_i32_978 : BitVec 32 := 0#32
  let c4_i32_968 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_954 : BitVec 32 := 5#32
  let v1340 : BitVec 32 := Scalar.addi v19 c5_i32_954
  let c8_i32_955 : BitVec 32 := 8#32
  let c0_i32_956 : BitVec 32 := 0#32
  let v1341 : BitVec 1 := Scalar.cmpi .eq c8_i32_955 c0_i32_956
  let c1_i32_957 : BitVec 32 := 1#32
  let v1342 : BitVec 32 := Scalar.select v1341 c1_i32_957 c8_i32_955
  let v1343 : BitVec 32 := Scalar.remsi v1340 v1342
  let c0_i32_959 : BitVec 32 := 0#32
  let v1345 : BitVec 1 := Scalar.cmpi .slt v1343 c0_i32_959
  let c0_i32_960 : BitVec 32 := 0#32
  let v1346 : BitVec 1 := Scalar.cmpi .slt v1342 c0_i32_960
  let v1347 : BitVec 1 := Scalar.xori v1345 v1346
  let c0_i32_958 : BitVec 32 := 0#32
  let v1344 : BitVec 1 := Scalar.cmpi .ne v1343 c0_i32_958
  let v1348 : BitVec 1 := Scalar.andi v1347 v1344
  let v1349 : BitVec 32 := Scalar.addi v1343 v1342
  let v1350 : BitVec 32 := Scalar.select v1348 v1349 v1343
  let v1362 : BitVec 32 := Scalar.muli c4_i32_968 v1350
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_961 : BitVec 32 := 0#32
  let v1351 : BitVec 32 := Scalar.addi v29 c0_i32_961
  let c4_i32_962 : BitVec 32 := 4#32
  let c0_i32_963 : BitVec 32 := 0#32
  let v1352 : BitVec 1 := Scalar.cmpi .eq c4_i32_962 c0_i32_963
  let c1_i32_964 : BitVec 32 := 1#32
  let v1353 : BitVec 32 := Scalar.select v1352 c1_i32_964 c4_i32_962
  let v1354 : BitVec 32 := Scalar.remsi v1351 v1353
  let c0_i32_966 : BitVec 32 := 0#32
  let v1356 : BitVec 1 := Scalar.cmpi .slt v1354 c0_i32_966
  let c0_i32_967 : BitVec 32 := 0#32
  let v1357 : BitVec 1 := Scalar.cmpi .slt v1353 c0_i32_967
  let v1358 : BitVec 1 := Scalar.xori v1356 v1357
  let c0_i32_965 : BitVec 32 := 0#32
  let v1355 : BitVec 1 := Scalar.cmpi .ne v1354 c0_i32_965
  let v1359 : BitVec 1 := Scalar.andi v1358 v1355
  let v1360 : BitVec 32 := Scalar.addi v1354 v1353
  let v1361 : BitVec 32 := Scalar.select v1359 v1360 v1354
  let v1363 : BitVec 32 := Scalar.addi v1362 v1361
  let c1_i32_977 : BitVec 32 := 1#32
  let v1371 : BitVec 32 := Scalar.muli v1363 c1_i32_977
  let v1372 : BitVec 32 := Scalar.addi c0_i32_978 v1371
  v1372.toNat
def k0_dev52 (d0 : Dev nD) : Nat :=
  let c0_i32_999 : BitVec 32 := 0#32
  let c4_i32_989 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_954 : BitVec 32 := 5#32
  let v1340 : BitVec 32 := Scalar.addi v19 c5_i32_954
  let c8_i32_955 : BitVec 32 := 8#32
  let c0_i32_956 : BitVec 32 := 0#32
  let v1341 : BitVec 1 := Scalar.cmpi .eq c8_i32_955 c0_i32_956
  let c1_i32_957 : BitVec 32 := 1#32
  let v1342 : BitVec 32 := Scalar.select v1341 c1_i32_957 c8_i32_955
  let v1343 : BitVec 32 := Scalar.remsi v1340 v1342
  let c0_i32_959 : BitVec 32 := 0#32
  let v1345 : BitVec 1 := Scalar.cmpi .slt v1343 c0_i32_959
  let c0_i32_960 : BitVec 32 := 0#32
  let v1346 : BitVec 1 := Scalar.cmpi .slt v1342 c0_i32_960
  let v1347 : BitVec 1 := Scalar.xori v1345 v1346
  let c0_i32_958 : BitVec 32 := 0#32
  let v1344 : BitVec 1 := Scalar.cmpi .ne v1343 c0_i32_958
  let v1348 : BitVec 1 := Scalar.andi v1347 v1344
  let v1349 : BitVec 32 := Scalar.addi v1343 v1342
  let v1350 : BitVec 32 := Scalar.select v1348 v1349 v1343
  let v1391 : BitVec 32 := Scalar.muli c4_i32_989 v1350
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_982 : BitVec 32 := 1#32
  let v1380 : BitVec 32 := Scalar.addi v29 c1_i32_982
  let c4_i32_983 : BitVec 32 := 4#32
  let c0_i32_984 : BitVec 32 := 0#32
  let v1381 : BitVec 1 := Scalar.cmpi .eq c4_i32_983 c0_i32_984
  let c1_i32_985 : BitVec 32 := 1#32
  let v1382 : BitVec 32 := Scalar.select v1381 c1_i32_985 c4_i32_983
  let v1383 : BitVec 32 := Scalar.remsi v1380 v1382
  let c0_i32_987 : BitVec 32 := 0#32
  let v1385 : BitVec 1 := Scalar.cmpi .slt v1383 c0_i32_987
  let c0_i32_988 : BitVec 32 := 0#32
  let v1386 : BitVec 1 := Scalar.cmpi .slt v1382 c0_i32_988
  let v1387 : BitVec 1 := Scalar.xori v1385 v1386
  let c0_i32_986 : BitVec 32 := 0#32
  let v1384 : BitVec 1 := Scalar.cmpi .ne v1383 c0_i32_986
  let v1388 : BitVec 1 := Scalar.andi v1387 v1384
  let v1389 : BitVec 32 := Scalar.addi v1383 v1382
  let v1390 : BitVec 32 := Scalar.select v1388 v1389 v1383
  let v1392 : BitVec 32 := Scalar.addi v1391 v1390
  let c1_i32_998 : BitVec 32 := 1#32
  let v1400 : BitVec 32 := Scalar.muli v1392 c1_i32_998
  let v1401 : BitVec 32 := Scalar.addi c0_i32_999 v1400
  v1401.toNat
def k0_dev53 (d0 : Dev nD) : Nat :=
  let c0_i32_1020 : BitVec 32 := 0#32
  let c4_i32_1010 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_954 : BitVec 32 := 5#32
  let v1340 : BitVec 32 := Scalar.addi v19 c5_i32_954
  let c8_i32_955 : BitVec 32 := 8#32
  let c0_i32_956 : BitVec 32 := 0#32
  let v1341 : BitVec 1 := Scalar.cmpi .eq c8_i32_955 c0_i32_956
  let c1_i32_957 : BitVec 32 := 1#32
  let v1342 : BitVec 32 := Scalar.select v1341 c1_i32_957 c8_i32_955
  let v1343 : BitVec 32 := Scalar.remsi v1340 v1342
  let c0_i32_959 : BitVec 32 := 0#32
  let v1345 : BitVec 1 := Scalar.cmpi .slt v1343 c0_i32_959
  let c0_i32_960 : BitVec 32 := 0#32
  let v1346 : BitVec 1 := Scalar.cmpi .slt v1342 c0_i32_960
  let v1347 : BitVec 1 := Scalar.xori v1345 v1346
  let c0_i32_958 : BitVec 32 := 0#32
  let v1344 : BitVec 1 := Scalar.cmpi .ne v1343 c0_i32_958
  let v1348 : BitVec 1 := Scalar.andi v1347 v1344
  let v1349 : BitVec 32 := Scalar.addi v1343 v1342
  let v1350 : BitVec 32 := Scalar.select v1348 v1349 v1343
  let v1420 : BitVec 32 := Scalar.muli c4_i32_1010 v1350
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1003 : BitVec 32 := 2#32
  let v1409 : BitVec 32 := Scalar.addi v29 c2_i32_1003
  let c4_i32_1004 : BitVec 32 := 4#32
  let c0_i32_1005 : BitVec 32 := 0#32
  let v1410 : BitVec 1 := Scalar.cmpi .eq c4_i32_1004 c0_i32_1005
  let c1_i32_1006 : BitVec 32 := 1#32
  let v1411 : BitVec 32 := Scalar.select v1410 c1_i32_1006 c4_i32_1004
  let v1412 : BitVec 32 := Scalar.remsi v1409 v1411
  let c0_i32_1008 : BitVec 32 := 0#32
  let v1414 : BitVec 1 := Scalar.cmpi .slt v1412 c0_i32_1008
  let c0_i32_1009 : BitVec 32 := 0#32
  let v1415 : BitVec 1 := Scalar.cmpi .slt v1411 c0_i32_1009
  let v1416 : BitVec 1 := Scalar.xori v1414 v1415
  let c0_i32_1007 : BitVec 32 := 0#32
  let v1413 : BitVec 1 := Scalar.cmpi .ne v1412 c0_i32_1007
  let v1417 : BitVec 1 := Scalar.andi v1416 v1413
  let v1418 : BitVec 32 := Scalar.addi v1412 v1411
  let v1419 : BitVec 32 := Scalar.select v1417 v1418 v1412
  let v1421 : BitVec 32 := Scalar.addi v1420 v1419
  let c1_i32_1019 : BitVec 32 := 1#32
  let v1429 : BitVec 32 := Scalar.muli v1421 c1_i32_1019
  let v1430 : BitVec 32 := Scalar.addi c0_i32_1020 v1429
  v1430.toNat
def k0_dev54 (d0 : Dev nD) : Nat :=
  let c0_i32_1041 : BitVec 32 := 0#32
  let c4_i32_1031 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_954 : BitVec 32 := 5#32
  let v1340 : BitVec 32 := Scalar.addi v19 c5_i32_954
  let c8_i32_955 : BitVec 32 := 8#32
  let c0_i32_956 : BitVec 32 := 0#32
  let v1341 : BitVec 1 := Scalar.cmpi .eq c8_i32_955 c0_i32_956
  let c1_i32_957 : BitVec 32 := 1#32
  let v1342 : BitVec 32 := Scalar.select v1341 c1_i32_957 c8_i32_955
  let v1343 : BitVec 32 := Scalar.remsi v1340 v1342
  let c0_i32_959 : BitVec 32 := 0#32
  let v1345 : BitVec 1 := Scalar.cmpi .slt v1343 c0_i32_959
  let c0_i32_960 : BitVec 32 := 0#32
  let v1346 : BitVec 1 := Scalar.cmpi .slt v1342 c0_i32_960
  let v1347 : BitVec 1 := Scalar.xori v1345 v1346
  let c0_i32_958 : BitVec 32 := 0#32
  let v1344 : BitVec 1 := Scalar.cmpi .ne v1343 c0_i32_958
  let v1348 : BitVec 1 := Scalar.andi v1347 v1344
  let v1349 : BitVec 32 := Scalar.addi v1343 v1342
  let v1350 : BitVec 32 := Scalar.select v1348 v1349 v1343
  let v1449 : BitVec 32 := Scalar.muli c4_i32_1031 v1350
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1024 : BitVec 32 := 3#32
  let v1438 : BitVec 32 := Scalar.addi v29 c3_i32_1024
  let c4_i32_1025 : BitVec 32 := 4#32
  let c0_i32_1026 : BitVec 32 := 0#32
  let v1439 : BitVec 1 := Scalar.cmpi .eq c4_i32_1025 c0_i32_1026
  let c1_i32_1027 : BitVec 32 := 1#32
  let v1440 : BitVec 32 := Scalar.select v1439 c1_i32_1027 c4_i32_1025
  let v1441 : BitVec 32 := Scalar.remsi v1438 v1440
  let c0_i32_1029 : BitVec 32 := 0#32
  let v1443 : BitVec 1 := Scalar.cmpi .slt v1441 c0_i32_1029
  let c0_i32_1030 : BitVec 32 := 0#32
  let v1444 : BitVec 1 := Scalar.cmpi .slt v1440 c0_i32_1030
  let v1445 : BitVec 1 := Scalar.xori v1443 v1444
  let c0_i32_1028 : BitVec 32 := 0#32
  let v1442 : BitVec 1 := Scalar.cmpi .ne v1441 c0_i32_1028
  let v1446 : BitVec 1 := Scalar.andi v1445 v1442
  let v1447 : BitVec 32 := Scalar.addi v1441 v1440
  let v1448 : BitVec 32 := Scalar.select v1446 v1447 v1441
  let v1450 : BitVec 32 := Scalar.addi v1449 v1448
  let c1_i32_1040 : BitVec 32 := 1#32
  let v1458 : BitVec 32 := Scalar.muli v1450 c1_i32_1040
  let v1459 : BitVec 32 := Scalar.addi c0_i32_1041 v1458
  v1459.toNat
def k0_dev55 (d0 : Dev nD) : Nat :=
  let c0_i32_1103 : BitVec 32 := 0#32
  let c4_i32_1093 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_1079 : BitVec 32 := 6#32
  let v1510 : BitVec 32 := Scalar.addi v19 c6_i32_1079
  let c8_i32_1080 : BitVec 32 := 8#32
  let c0_i32_1081 : BitVec 32 := 0#32
  let v1511 : BitVec 1 := Scalar.cmpi .eq c8_i32_1080 c0_i32_1081
  let c1_i32_1082 : BitVec 32 := 1#32
  let v1512 : BitVec 32 := Scalar.select v1511 c1_i32_1082 c8_i32_1080
  let v1513 : BitVec 32 := Scalar.remsi v1510 v1512
  let c0_i32_1084 : BitVec 32 := 0#32
  let v1515 : BitVec 1 := Scalar.cmpi .slt v1513 c0_i32_1084
  let c0_i32_1085 : BitVec 32 := 0#32
  let v1516 : BitVec 1 := Scalar.cmpi .slt v1512 c0_i32_1085
  let v1517 : BitVec 1 := Scalar.xori v1515 v1516
  let c0_i32_1083 : BitVec 32 := 0#32
  let v1514 : BitVec 1 := Scalar.cmpi .ne v1513 c0_i32_1083
  let v1518 : BitVec 1 := Scalar.andi v1517 v1514
  let v1519 : BitVec 32 := Scalar.addi v1513 v1512
  let v1520 : BitVec 32 := Scalar.select v1518 v1519 v1513
  let v1532 : BitVec 32 := Scalar.muli c4_i32_1093 v1520
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_1086 : BitVec 32 := 0#32
  let v1521 : BitVec 32 := Scalar.addi v29 c0_i32_1086
  let c4_i32_1087 : BitVec 32 := 4#32
  let c0_i32_1088 : BitVec 32 := 0#32
  let v1522 : BitVec 1 := Scalar.cmpi .eq c4_i32_1087 c0_i32_1088
  let c1_i32_1089 : BitVec 32 := 1#32
  let v1523 : BitVec 32 := Scalar.select v1522 c1_i32_1089 c4_i32_1087
  let v1524 : BitVec 32 := Scalar.remsi v1521 v1523
  let c0_i32_1091 : BitVec 32 := 0#32
  let v1526 : BitVec 1 := Scalar.cmpi .slt v1524 c0_i32_1091
  let c0_i32_1092 : BitVec 32 := 0#32
  let v1527 : BitVec 1 := Scalar.cmpi .slt v1523 c0_i32_1092
  let v1528 : BitVec 1 := Scalar.xori v1526 v1527
  let c0_i32_1090 : BitVec 32 := 0#32
  let v1525 : BitVec 1 := Scalar.cmpi .ne v1524 c0_i32_1090
  let v1529 : BitVec 1 := Scalar.andi v1528 v1525
  let v1530 : BitVec 32 := Scalar.addi v1524 v1523
  let v1531 : BitVec 32 := Scalar.select v1529 v1530 v1524
  let v1533 : BitVec 32 := Scalar.addi v1532 v1531
  let c1_i32_1102 : BitVec 32 := 1#32
  let v1541 : BitVec 32 := Scalar.muli v1533 c1_i32_1102
  let v1542 : BitVec 32 := Scalar.addi c0_i32_1103 v1541
  v1542.toNat
def k0_dev56 (d0 : Dev nD) : Nat :=
  let c0_i32_1124 : BitVec 32 := 0#32
  let c4_i32_1114 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_1079 : BitVec 32 := 6#32
  let v1510 : BitVec 32 := Scalar.addi v19 c6_i32_1079
  let c8_i32_1080 : BitVec 32 := 8#32
  let c0_i32_1081 : BitVec 32 := 0#32
  let v1511 : BitVec 1 := Scalar.cmpi .eq c8_i32_1080 c0_i32_1081
  let c1_i32_1082 : BitVec 32 := 1#32
  let v1512 : BitVec 32 := Scalar.select v1511 c1_i32_1082 c8_i32_1080
  let v1513 : BitVec 32 := Scalar.remsi v1510 v1512
  let c0_i32_1084 : BitVec 32 := 0#32
  let v1515 : BitVec 1 := Scalar.cmpi .slt v1513 c0_i32_1084
  let c0_i32_1085 : BitVec 32 := 0#32
  let v1516 : BitVec 1 := Scalar.cmpi .slt v1512 c0_i32_1085
  let v1517 : BitVec 1 := Scalar.xori v1515 v1516
  let c0_i32_1083 : BitVec 32 := 0#32
  let v1514 : BitVec 1 := Scalar.cmpi .ne v1513 c0_i32_1083
  let v1518 : BitVec 1 := Scalar.andi v1517 v1514
  let v1519 : BitVec 32 := Scalar.addi v1513 v1512
  let v1520 : BitVec 32 := Scalar.select v1518 v1519 v1513
  let v1561 : BitVec 32 := Scalar.muli c4_i32_1114 v1520
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1107 : BitVec 32 := 1#32
  let v1550 : BitVec 32 := Scalar.addi v29 c1_i32_1107
  let c4_i32_1108 : BitVec 32 := 4#32
  let c0_i32_1109 : BitVec 32 := 0#32
  let v1551 : BitVec 1 := Scalar.cmpi .eq c4_i32_1108 c0_i32_1109
  let c1_i32_1110 : BitVec 32 := 1#32
  let v1552 : BitVec 32 := Scalar.select v1551 c1_i32_1110 c4_i32_1108
  let v1553 : BitVec 32 := Scalar.remsi v1550 v1552
  let c0_i32_1112 : BitVec 32 := 0#32
  let v1555 : BitVec 1 := Scalar.cmpi .slt v1553 c0_i32_1112
  let c0_i32_1113 : BitVec 32 := 0#32
  let v1556 : BitVec 1 := Scalar.cmpi .slt v1552 c0_i32_1113
  let v1557 : BitVec 1 := Scalar.xori v1555 v1556
  let c0_i32_1111 : BitVec 32 := 0#32
  let v1554 : BitVec 1 := Scalar.cmpi .ne v1553 c0_i32_1111
  let v1558 : BitVec 1 := Scalar.andi v1557 v1554
  let v1559 : BitVec 32 := Scalar.addi v1553 v1552
  let v1560 : BitVec 32 := Scalar.select v1558 v1559 v1553
  let v1562 : BitVec 32 := Scalar.addi v1561 v1560
  let c1_i32_1123 : BitVec 32 := 1#32
  let v1570 : BitVec 32 := Scalar.muli v1562 c1_i32_1123
  let v1571 : BitVec 32 := Scalar.addi c0_i32_1124 v1570
  v1571.toNat
def k0_dev57 (d0 : Dev nD) : Nat :=
  let c0_i32_1145 : BitVec 32 := 0#32
  let c4_i32_1135 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_1079 : BitVec 32 := 6#32
  let v1510 : BitVec 32 := Scalar.addi v19 c6_i32_1079
  let c8_i32_1080 : BitVec 32 := 8#32
  let c0_i32_1081 : BitVec 32 := 0#32
  let v1511 : BitVec 1 := Scalar.cmpi .eq c8_i32_1080 c0_i32_1081
  let c1_i32_1082 : BitVec 32 := 1#32
  let v1512 : BitVec 32 := Scalar.select v1511 c1_i32_1082 c8_i32_1080
  let v1513 : BitVec 32 := Scalar.remsi v1510 v1512
  let c0_i32_1084 : BitVec 32 := 0#32
  let v1515 : BitVec 1 := Scalar.cmpi .slt v1513 c0_i32_1084
  let c0_i32_1085 : BitVec 32 := 0#32
  let v1516 : BitVec 1 := Scalar.cmpi .slt v1512 c0_i32_1085
  let v1517 : BitVec 1 := Scalar.xori v1515 v1516
  let c0_i32_1083 : BitVec 32 := 0#32
  let v1514 : BitVec 1 := Scalar.cmpi .ne v1513 c0_i32_1083
  let v1518 : BitVec 1 := Scalar.andi v1517 v1514
  let v1519 : BitVec 32 := Scalar.addi v1513 v1512
  let v1520 : BitVec 32 := Scalar.select v1518 v1519 v1513
  let v1590 : BitVec 32 := Scalar.muli c4_i32_1135 v1520
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1128 : BitVec 32 := 2#32
  let v1579 : BitVec 32 := Scalar.addi v29 c2_i32_1128
  let c4_i32_1129 : BitVec 32 := 4#32
  let c0_i32_1130 : BitVec 32 := 0#32
  let v1580 : BitVec 1 := Scalar.cmpi .eq c4_i32_1129 c0_i32_1130
  let c1_i32_1131 : BitVec 32 := 1#32
  let v1581 : BitVec 32 := Scalar.select v1580 c1_i32_1131 c4_i32_1129
  let v1582 : BitVec 32 := Scalar.remsi v1579 v1581
  let c0_i32_1133 : BitVec 32 := 0#32
  let v1584 : BitVec 1 := Scalar.cmpi .slt v1582 c0_i32_1133
  let c0_i32_1134 : BitVec 32 := 0#32
  let v1585 : BitVec 1 := Scalar.cmpi .slt v1581 c0_i32_1134
  let v1586 : BitVec 1 := Scalar.xori v1584 v1585
  let c0_i32_1132 : BitVec 32 := 0#32
  let v1583 : BitVec 1 := Scalar.cmpi .ne v1582 c0_i32_1132
  let v1587 : BitVec 1 := Scalar.andi v1586 v1583
  let v1588 : BitVec 32 := Scalar.addi v1582 v1581
  let v1589 : BitVec 32 := Scalar.select v1587 v1588 v1582
  let v1591 : BitVec 32 := Scalar.addi v1590 v1589
  let c1_i32_1144 : BitVec 32 := 1#32
  let v1599 : BitVec 32 := Scalar.muli v1591 c1_i32_1144
  let v1600 : BitVec 32 := Scalar.addi c0_i32_1145 v1599
  v1600.toNat
def k0_dev58 (d0 : Dev nD) : Nat :=
  let c0_i32_1166 : BitVec 32 := 0#32
  let c4_i32_1156 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_1079 : BitVec 32 := 6#32
  let v1510 : BitVec 32 := Scalar.addi v19 c6_i32_1079
  let c8_i32_1080 : BitVec 32 := 8#32
  let c0_i32_1081 : BitVec 32 := 0#32
  let v1511 : BitVec 1 := Scalar.cmpi .eq c8_i32_1080 c0_i32_1081
  let c1_i32_1082 : BitVec 32 := 1#32
  let v1512 : BitVec 32 := Scalar.select v1511 c1_i32_1082 c8_i32_1080
  let v1513 : BitVec 32 := Scalar.remsi v1510 v1512
  let c0_i32_1084 : BitVec 32 := 0#32
  let v1515 : BitVec 1 := Scalar.cmpi .slt v1513 c0_i32_1084
  let c0_i32_1085 : BitVec 32 := 0#32
  let v1516 : BitVec 1 := Scalar.cmpi .slt v1512 c0_i32_1085
  let v1517 : BitVec 1 := Scalar.xori v1515 v1516
  let c0_i32_1083 : BitVec 32 := 0#32
  let v1514 : BitVec 1 := Scalar.cmpi .ne v1513 c0_i32_1083
  let v1518 : BitVec 1 := Scalar.andi v1517 v1514
  let v1519 : BitVec 32 := Scalar.addi v1513 v1512
  let v1520 : BitVec 32 := Scalar.select v1518 v1519 v1513
  let v1619 : BitVec 32 := Scalar.muli c4_i32_1156 v1520
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1149 : BitVec 32 := 3#32
  let v1608 : BitVec 32 := Scalar.addi v29 c3_i32_1149
  let c4_i32_1150 : BitVec 32 := 4#32
  let c0_i32_1151 : BitVec 32 := 0#32
  let v1609 : BitVec 1 := Scalar.cmpi .eq c4_i32_1150 c0_i32_1151
  let c1_i32_1152 : BitVec 32 := 1#32
  let v1610 : BitVec 32 := Scalar.select v1609 c1_i32_1152 c4_i32_1150
  let v1611 : BitVec 32 := Scalar.remsi v1608 v1610
  let c0_i32_1154 : BitVec 32 := 0#32
  let v1613 : BitVec 1 := Scalar.cmpi .slt v1611 c0_i32_1154
  let c0_i32_1155 : BitVec 32 := 0#32
  let v1614 : BitVec 1 := Scalar.cmpi .slt v1610 c0_i32_1155
  let v1615 : BitVec 1 := Scalar.xori v1613 v1614
  let c0_i32_1153 : BitVec 32 := 0#32
  let v1612 : BitVec 1 := Scalar.cmpi .ne v1611 c0_i32_1153
  let v1616 : BitVec 1 := Scalar.andi v1615 v1612
  let v1617 : BitVec 32 := Scalar.addi v1611 v1610
  let v1618 : BitVec 32 := Scalar.select v1616 v1617 v1611
  let v1620 : BitVec 32 := Scalar.addi v1619 v1618
  let c1_i32_1165 : BitVec 32 := 1#32
  let v1628 : BitVec 32 := Scalar.muli v1620 c1_i32_1165
  let v1629 : BitVec 32 := Scalar.addi c0_i32_1166 v1628
  v1629.toNat
def k0_dev59 (d0 : Dev nD) : Nat :=
  let c0_i32_1215 : BitVec 32 := 0#32
  let c4_i32_1205 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_1191 : BitVec 32 := 7#32
  let v1663 : BitVec 32 := Scalar.addi v19 c7_i32_1191
  let c8_i32_1192 : BitVec 32 := 8#32
  let c0_i32_1193 : BitVec 32 := 0#32
  let v1664 : BitVec 1 := Scalar.cmpi .eq c8_i32_1192 c0_i32_1193
  let c1_i32_1194 : BitVec 32 := 1#32
  let v1665 : BitVec 32 := Scalar.select v1664 c1_i32_1194 c8_i32_1192
  let v1666 : BitVec 32 := Scalar.remsi v1663 v1665
  let c0_i32_1196 : BitVec 32 := 0#32
  let v1668 : BitVec 1 := Scalar.cmpi .slt v1666 c0_i32_1196
  let c0_i32_1197 : BitVec 32 := 0#32
  let v1669 : BitVec 1 := Scalar.cmpi .slt v1665 c0_i32_1197
  let v1670 : BitVec 1 := Scalar.xori v1668 v1669
  let c0_i32_1195 : BitVec 32 := 0#32
  let v1667 : BitVec 1 := Scalar.cmpi .ne v1666 c0_i32_1195
  let v1671 : BitVec 1 := Scalar.andi v1670 v1667
  let v1672 : BitVec 32 := Scalar.addi v1666 v1665
  let v1673 : BitVec 32 := Scalar.select v1671 v1672 v1666
  let v1685 : BitVec 32 := Scalar.muli c4_i32_1205 v1673
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_1198 : BitVec 32 := 0#32
  let v1674 : BitVec 32 := Scalar.addi v29 c0_i32_1198
  let c4_i32_1199 : BitVec 32 := 4#32
  let c0_i32_1200 : BitVec 32 := 0#32
  let v1675 : BitVec 1 := Scalar.cmpi .eq c4_i32_1199 c0_i32_1200
  let c1_i32_1201 : BitVec 32 := 1#32
  let v1676 : BitVec 32 := Scalar.select v1675 c1_i32_1201 c4_i32_1199
  let v1677 : BitVec 32 := Scalar.remsi v1674 v1676
  let c0_i32_1203 : BitVec 32 := 0#32
  let v1679 : BitVec 1 := Scalar.cmpi .slt v1677 c0_i32_1203
  let c0_i32_1204 : BitVec 32 := 0#32
  let v1680 : BitVec 1 := Scalar.cmpi .slt v1676 c0_i32_1204
  let v1681 : BitVec 1 := Scalar.xori v1679 v1680
  let c0_i32_1202 : BitVec 32 := 0#32
  let v1678 : BitVec 1 := Scalar.cmpi .ne v1677 c0_i32_1202
  let v1682 : BitVec 1 := Scalar.andi v1681 v1678
  let v1683 : BitVec 32 := Scalar.addi v1677 v1676
  let v1684 : BitVec 32 := Scalar.select v1682 v1683 v1677
  let v1686 : BitVec 32 := Scalar.addi v1685 v1684
  let c1_i32_1214 : BitVec 32 := 1#32
  let v1694 : BitVec 32 := Scalar.muli v1686 c1_i32_1214
  let v1695 : BitVec 32 := Scalar.addi c0_i32_1215 v1694
  v1695.toNat
def k0_dev60 (d0 : Dev nD) : Nat :=
  let c0_i32_1236 : BitVec 32 := 0#32
  let c4_i32_1226 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_1191 : BitVec 32 := 7#32
  let v1663 : BitVec 32 := Scalar.addi v19 c7_i32_1191
  let c8_i32_1192 : BitVec 32 := 8#32
  let c0_i32_1193 : BitVec 32 := 0#32
  let v1664 : BitVec 1 := Scalar.cmpi .eq c8_i32_1192 c0_i32_1193
  let c1_i32_1194 : BitVec 32 := 1#32
  let v1665 : BitVec 32 := Scalar.select v1664 c1_i32_1194 c8_i32_1192
  let v1666 : BitVec 32 := Scalar.remsi v1663 v1665
  let c0_i32_1196 : BitVec 32 := 0#32
  let v1668 : BitVec 1 := Scalar.cmpi .slt v1666 c0_i32_1196
  let c0_i32_1197 : BitVec 32 := 0#32
  let v1669 : BitVec 1 := Scalar.cmpi .slt v1665 c0_i32_1197
  let v1670 : BitVec 1 := Scalar.xori v1668 v1669
  let c0_i32_1195 : BitVec 32 := 0#32
  let v1667 : BitVec 1 := Scalar.cmpi .ne v1666 c0_i32_1195
  let v1671 : BitVec 1 := Scalar.andi v1670 v1667
  let v1672 : BitVec 32 := Scalar.addi v1666 v1665
  let v1673 : BitVec 32 := Scalar.select v1671 v1672 v1666
  let v1714 : BitVec 32 := Scalar.muli c4_i32_1226 v1673
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1219 : BitVec 32 := 1#32
  let v1703 : BitVec 32 := Scalar.addi v29 c1_i32_1219
  let c4_i32_1220 : BitVec 32 := 4#32
  let c0_i32_1221 : BitVec 32 := 0#32
  let v1704 : BitVec 1 := Scalar.cmpi .eq c4_i32_1220 c0_i32_1221
  let c1_i32_1222 : BitVec 32 := 1#32
  let v1705 : BitVec 32 := Scalar.select v1704 c1_i32_1222 c4_i32_1220
  let v1706 : BitVec 32 := Scalar.remsi v1703 v1705
  let c0_i32_1224 : BitVec 32 := 0#32
  let v1708 : BitVec 1 := Scalar.cmpi .slt v1706 c0_i32_1224
  let c0_i32_1225 : BitVec 32 := 0#32
  let v1709 : BitVec 1 := Scalar.cmpi .slt v1705 c0_i32_1225
  let v1710 : BitVec 1 := Scalar.xori v1708 v1709
  let c0_i32_1223 : BitVec 32 := 0#32
  let v1707 : BitVec 1 := Scalar.cmpi .ne v1706 c0_i32_1223
  let v1711 : BitVec 1 := Scalar.andi v1710 v1707
  let v1712 : BitVec 32 := Scalar.addi v1706 v1705
  let v1713 : BitVec 32 := Scalar.select v1711 v1712 v1706
  let v1715 : BitVec 32 := Scalar.addi v1714 v1713
  let c1_i32_1235 : BitVec 32 := 1#32
  let v1723 : BitVec 32 := Scalar.muli v1715 c1_i32_1235
  let v1724 : BitVec 32 := Scalar.addi c0_i32_1236 v1723
  v1724.toNat
def k0_dev61 (d0 : Dev nD) : Nat :=
  let c0_i32_1257 : BitVec 32 := 0#32
  let c4_i32_1247 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_1191 : BitVec 32 := 7#32
  let v1663 : BitVec 32 := Scalar.addi v19 c7_i32_1191
  let c8_i32_1192 : BitVec 32 := 8#32
  let c0_i32_1193 : BitVec 32 := 0#32
  let v1664 : BitVec 1 := Scalar.cmpi .eq c8_i32_1192 c0_i32_1193
  let c1_i32_1194 : BitVec 32 := 1#32
  let v1665 : BitVec 32 := Scalar.select v1664 c1_i32_1194 c8_i32_1192
  let v1666 : BitVec 32 := Scalar.remsi v1663 v1665
  let c0_i32_1196 : BitVec 32 := 0#32
  let v1668 : BitVec 1 := Scalar.cmpi .slt v1666 c0_i32_1196
  let c0_i32_1197 : BitVec 32 := 0#32
  let v1669 : BitVec 1 := Scalar.cmpi .slt v1665 c0_i32_1197
  let v1670 : BitVec 1 := Scalar.xori v1668 v1669
  let c0_i32_1195 : BitVec 32 := 0#32
  let v1667 : BitVec 1 := Scalar.cmpi .ne v1666 c0_i32_1195
  let v1671 : BitVec 1 := Scalar.andi v1670 v1667
  let v1672 : BitVec 32 := Scalar.addi v1666 v1665
  let v1673 : BitVec 32 := Scalar.select v1671 v1672 v1666
  let v1743 : BitVec 32 := Scalar.muli c4_i32_1247 v1673
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1240 : BitVec 32 := 2#32
  let v1732 : BitVec 32 := Scalar.addi v29 c2_i32_1240
  let c4_i32_1241 : BitVec 32 := 4#32
  let c0_i32_1242 : BitVec 32 := 0#32
  let v1733 : BitVec 1 := Scalar.cmpi .eq c4_i32_1241 c0_i32_1242
  let c1_i32_1243 : BitVec 32 := 1#32
  let v1734 : BitVec 32 := Scalar.select v1733 c1_i32_1243 c4_i32_1241
  let v1735 : BitVec 32 := Scalar.remsi v1732 v1734
  let c0_i32_1245 : BitVec 32 := 0#32
  let v1737 : BitVec 1 := Scalar.cmpi .slt v1735 c0_i32_1245
  let c0_i32_1246 : BitVec 32 := 0#32
  let v1738 : BitVec 1 := Scalar.cmpi .slt v1734 c0_i32_1246
  let v1739 : BitVec 1 := Scalar.xori v1737 v1738
  let c0_i32_1244 : BitVec 32 := 0#32
  let v1736 : BitVec 1 := Scalar.cmpi .ne v1735 c0_i32_1244
  let v1740 : BitVec 1 := Scalar.andi v1739 v1736
  let v1741 : BitVec 32 := Scalar.addi v1735 v1734
  let v1742 : BitVec 32 := Scalar.select v1740 v1741 v1735
  let v1744 : BitVec 32 := Scalar.addi v1743 v1742
  let c1_i32_1256 : BitVec 32 := 1#32
  let v1752 : BitVec 32 := Scalar.muli v1744 c1_i32_1256
  let v1753 : BitVec 32 := Scalar.addi c0_i32_1257 v1752
  v1753.toNat
def k0_dev62 (d0 : Dev nD) : Nat :=
  let c0_i32_1278 : BitVec 32 := 0#32
  let c4_i32_1268 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_1191 : BitVec 32 := 7#32
  let v1663 : BitVec 32 := Scalar.addi v19 c7_i32_1191
  let c8_i32_1192 : BitVec 32 := 8#32
  let c0_i32_1193 : BitVec 32 := 0#32
  let v1664 : BitVec 1 := Scalar.cmpi .eq c8_i32_1192 c0_i32_1193
  let c1_i32_1194 : BitVec 32 := 1#32
  let v1665 : BitVec 32 := Scalar.select v1664 c1_i32_1194 c8_i32_1192
  let v1666 : BitVec 32 := Scalar.remsi v1663 v1665
  let c0_i32_1196 : BitVec 32 := 0#32
  let v1668 : BitVec 1 := Scalar.cmpi .slt v1666 c0_i32_1196
  let c0_i32_1197 : BitVec 32 := 0#32
  let v1669 : BitVec 1 := Scalar.cmpi .slt v1665 c0_i32_1197
  let v1670 : BitVec 1 := Scalar.xori v1668 v1669
  let c0_i32_1195 : BitVec 32 := 0#32
  let v1667 : BitVec 1 := Scalar.cmpi .ne v1666 c0_i32_1195
  let v1671 : BitVec 1 := Scalar.andi v1670 v1667
  let v1672 : BitVec 32 := Scalar.addi v1666 v1665
  let v1673 : BitVec 32 := Scalar.select v1671 v1672 v1666
  let v1772 : BitVec 32 := Scalar.muli c4_i32_1268 v1673
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1261 : BitVec 32 := 3#32
  let v1761 : BitVec 32 := Scalar.addi v29 c3_i32_1261
  let c4_i32_1262 : BitVec 32 := 4#32
  let c0_i32_1263 : BitVec 32 := 0#32
  let v1762 : BitVec 1 := Scalar.cmpi .eq c4_i32_1262 c0_i32_1263
  let c1_i32_1264 : BitVec 32 := 1#32
  let v1763 : BitVec 32 := Scalar.select v1762 c1_i32_1264 c4_i32_1262
  let v1764 : BitVec 32 := Scalar.remsi v1761 v1763
  let c0_i32_1266 : BitVec 32 := 0#32
  let v1766 : BitVec 1 := Scalar.cmpi .slt v1764 c0_i32_1266
  let c0_i32_1267 : BitVec 32 := 0#32
  let v1767 : BitVec 1 := Scalar.cmpi .slt v1763 c0_i32_1267
  let v1768 : BitVec 1 := Scalar.xori v1766 v1767
  let c0_i32_1265 : BitVec 32 := 0#32
  let v1765 : BitVec 1 := Scalar.cmpi .ne v1764 c0_i32_1265
  let v1769 : BitVec 1 := Scalar.andi v1768 v1765
  let v1770 : BitVec 32 := Scalar.addi v1764 v1763
  let v1771 : BitVec 32 := Scalar.select v1769 v1770 v1764
  let v1773 : BitVec 32 := Scalar.addi v1772 v1771
  let c1_i32_1277 : BitVec 32 := 1#32
  let v1781 : BitVec 32 := Scalar.muli v1773 c1_i32_1277
  let v1782 : BitVec 32 := Scalar.addi c0_i32_1278 v1781
  v1782.toNat
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Body.lean ====
/-
# The kernel's body as a short program

The printed body is one long straight line of effects. Read again it is: one copy of the weights started, the block
of `x` rounded, 31 signals, one wait, eight chunks of four tiles each, 31 receive waits, one store, 31 send waits.
This module writes that program down with one definition per kind of step, and states that the printed body is it.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S256x8192 .f32 := Memref.whole cc0_stg0_0
abbrev wM : Memref sig .tc .hbm S8192x4096 .f32 := Memref.whole main_arg1
abbrev oM : Memref sig .tc .vmem S8192x128 .f32 := Memref.whole cc0_stg1_0
abbrev xbM : Memref sig .tc .vmem S256x8192 .bf16 := Memref.whole cc0_scratch0
abbrev wbM : Memref sig .tc .vmem S2x8192x512 .f32 := Memref.whole cc0_scratch1
abbrev mbM : Memref sig .tc .vmem S256x512 .bf16 := Memref.whole cc0_scratch2
abbrev tlM : Memref sig .tc .vmem S32x256x128 .bf16 := Memref.whole cc0_scratch3
abbrev rbM : Memref sig .tc .vmem S8192x128 .bf16 := Memref.whole cc0_scratch4

/-! ## The parts of the buffers that the steps name -/

theorem slot_inb : ∀ s : Fin 2, ∀ a, (![s.val, 0, 0] : Fin 3 → Nat) a + S1x8192x512.size a ≤ S2x8192x512.size a := by decide
theorem tile_inb : ∀ t : Fin 32, ∀ a, (![t.val, 0, 0] : Fin 3 → Nat) a + S1x256x128.size a ≤ S32x256x128.size a := by decide
theorem sem2_inb : ∀ s : Fin 2, ∀ a, (![s.val] : Fin 1 → Nat) a + S1.size a ≤ S2.size a := by decide
theorem sem32_inb : ∀ t : Fin 32, ∀ a, (![t.val] : Fin 1 → Nat) a + S1.size a ≤ S32.size a := by decide
theorem tile_words : ∀ t : Fin 32, (Rect.unit (s := S32x256x128) ![t.val, 0, 0] S1x256x128.size (tile_inb t)).WholeWords (EltTy.packing .bf16) := by decide +kernel
theorem tile_packed : ∀ t : Fin 32, (Rect.unit (s := S32x256x128) ![t.val, 0, 0] S1x256x128.size (tile_inb t)).PackedRows (EltTy.packing .bf16) := by decide +kernel

/-- Slot `s` of the weight buffer, as a plane. -/
abbrev slotM (s : Fin 2) : Memref sig .tc .vmem S8192x512 .f32 :=
  (wbM.slice (Rect.unit (s := S2x8192x512) ![s.val, 0, 0] S1x8192x512.size (slot_inb s)) (fun _ => rfl)).squeeze S8192x512 squeezes_S1x8192x512_S8192x512
/-- Tile `t` of the tile buffer, as a plane. -/
abbrev tileM (t : Fin 32) : Memref sig .tc .vmem S256x128 .bf16 :=
  (tlM.slice (Rect.unit (s := S32x256x128) ![t.val, 0, 0] S1x256x128.size (tile_inb t)) (fun _ => rfl)).squeeze S256x128 squeezes_S1x256x128_S256x128
/-- The columns of `w` that device `d` multiplies by in its chunk `i`. -/
abbrev wChunkM (d : Dev nD) (i : Fin 8) : Memref sig .tc .hbm S8192x512 .f32 :=
  wM.slice (Rect.unit (s := S8192x4096) (k0_off1 d (BitVec.ofNat 32 i.val)) S8192x512.size (k0_off1_inb d i)) (fun _ => rfl)
/-- The rows of a receive buffer that device `d` fills. -/
abbrev rowsM (d : Dev nD) : Memref sig .tc .vmem S256x128 .bf16 :=
  rbM.slice (Rect.unit (s := S8192x128) (k0_off4 d) S256x128.size (k0_off4_inb d)) (fun _ => rfl)

abbrev copySem (s : Fin 2) : DmaSem sig := ((cc0_scratch5.slice (Rect.unit (s := S2) ![s.val] S1.size (sem2_inb s))).squeeze S_ squeezes_S1_S_).sem
abbrev sendSem (t : Fin 32) : DmaSem sig := ((cc0_scratch6.slice (Rect.unit (s := S32) ![t.val] S1.size (sem32_inb t))).squeeze S_ squeezes_S1_S_).sem
abbrev recvSem (t : Fin 32) : DmaSem sig := ((cc0_scratch7.slice (Rect.unit (s := S32) ![t.val] S1.size (sem32_inb t))).squeeze S_ squeezes_S1_S_).sem
abbrev barSem : Sem sig := (SemArray.scalar (sig.barrier 0 rfl) : Sems sig S_).sem

/-! ## The devices that the steps name -/

/-- The device that the `n`-th signal goes to (`n` from 1), as printed. -/
def sigDev (d : Dev nD) : Fin 32 → Dev nD :=
  ![d, ⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩,
    ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩,
    ⟨k0_dev29 d, k0_dev29_lt d⟩, ⟨k0_dev30 d, k0_dev30_lt d⟩, ⟨k0_dev31 d, k0_dev31_lt d⟩]

/-- The device that tile `t` goes to, as printed (tile 0 stays). -/
def sendDev (d : Dev nD) : Fin 32 → Dev nD :=
  ![d, ⟨k0_dev32 d, k0_dev32_lt d⟩, ⟨k0_dev33 d, k0_dev33_lt d⟩, ⟨k0_dev34 d, k0_dev34_lt d⟩, ⟨k0_dev35 d, k0_dev35_lt d⟩,
    ⟨k0_dev36 d, k0_dev36_lt d⟩, ⟨k0_dev37 d, k0_dev37_lt d⟩, ⟨k0_dev38 d, k0_dev38_lt d⟩, ⟨k0_dev39 d, k0_dev39_lt d⟩,
    ⟨k0_dev40 d, k0_dev40_lt d⟩, ⟨k0_dev41 d, k0_dev41_lt d⟩, ⟨k0_dev42 d, k0_dev42_lt d⟩, ⟨k0_dev43 d, k0_dev43_lt d⟩,
    ⟨k0_dev44 d, k0_dev44_lt d⟩, ⟨k0_dev45 d, k0_dev45_lt d⟩, ⟨k0_dev46 d, k0_dev46_lt d⟩, ⟨k0_dev47 d, k0_dev47_lt d⟩,
    ⟨k0_dev48 d, k0_dev48_lt d⟩, ⟨k0_dev49 d, k0_dev49_lt d⟩, ⟨k0_dev50 d, k0_dev50_lt d⟩, ⟨k0_dev51 d, k0_dev51_lt d⟩,
    ⟨k0_dev52 d, k0_dev52_lt d⟩, ⟨k0_dev53 d, k0_dev53_lt d⟩, ⟨k0_dev54 d, k0_dev54_lt d⟩, ⟨k0_dev55 d, k0_dev55_lt d⟩,
    ⟨k0_dev56 d, k0_dev56_lt d⟩, ⟨k0_dev57 d, k0_dev57_lt d⟩, ⟨k0_dev58 d, k0_dev58_lt d⟩, ⟨k0_dev59 d, k0_dev59_lt d⟩,
    ⟨k0_dev60 d, k0_dev60_lt d⟩, ⟨k0_dev61 d, k0_dev61_lt d⟩, ⟨k0_dev62 d, k0_dev62_lt d⟩]

/-! ## The steps, each followed by the rest of the program -/

/-- A program on one device's core. -/
abbrev KProg (F : FTy → Type) : Type 1 := Prog (TpuEff nD τ sig (Elt F) Λ₀ .tc) PUnit

/-- One step per entry of a list, in the list's order. -/
def steps {I : Type} (f : I → KProg F → KProg F) : List I → KProg F → KProg F
  | [], k => k
  | i :: l, k => f i (steps f l k)

/-- The chunk's slot. -/
def slotOf (i : Fin 8) : Fin 2 := ⟨i.val % 2, Nat.mod_lt _ (by decide)⟩
/-- The tile's chunk, and its place in the chunk. -/
def chunkOf (t : Fin 32) : Fin 8 := ⟨t.val / 4, by omega⟩
def partOf (t : Fin 32) : Fin 4 := ⟨t.val % 4, by omega⟩

abbrev xRect : Rect S256x8192 := Rect.unit (s := S256x8192) ![0, 0] S256x8192.size inb_S256x8192_S256x8192_0_0
abbrev mRect : Rect S256x512 := Rect.unit (s := S256x512) ![0, 0] S256x512.size inb_S256x512_S256x512_0_0
abbrev oRect : Rect S8192x128 := Rect.unit (s := S8192x128) ![0, 0] S8192x128.size inb_S8192x128_S8192x128_0_0
abbrev slotRect (s : Fin 2) : Rect S2x8192x512 := Rect.unit (s := S2x8192x512) ![s.val, 0, 0] S1x8192x512.size (slot_inb s)
abbrev tileRect (t : Fin 32) : Rect S32x256x128 := Rect.unit (s := S32x256x128) ![t.val, 0, 0] S1x256x128.size (tile_inb t)
abbrev colsRect (d : Dev nD) (r : Fin 4) : Rect S256x512 := Rect.unit (s := S256x512) (k0_off2 d (BitVec.ofNat 32 r.val)) S256x128.size (k0_off2_inb d r)
abbrev ownRect (d : Dev nD) : Rect S8192x128 := Rect.unit (s := S8192x128) (k0_off3 d) S256x128.size (k0_off3_inb d)

/-- Start copying chunk `i` of `w` into its slot. -/
def pCopy (d : Dev nD) (i : Fin 8) (k : KProg F) : KProg F :=
  .op (.enqueueDma (wChunkM d i) (.here (slotM (slotOf i))) (.dma (copySem (slotOf i))) (View.wordExact_bits rfl) ((View.wordExact_bits rfl).reshape _ _) ⟨Or.inl rfl, trivial⟩) fun _ => k
/-- Wait for that copy. -/
def pCopied (d : Dev nD) (i : Fin 8) (k : KProg F) : KProg F :=
  .op (.waitDma2 (copySem (slotOf i)) (wChunkM d i) (slotM (slotOf i)) (View.wordExact_bits rfl) ((View.wordExact_bits rfl).reshape _ _)) fun _ => k
/-- Round this device's block of `x`. -/
def pRound (k : KProg F) : KProg F :=
  .op (.load xM xRect.toLoadRect (View.loadsAt_vmem h_S256x8192)) fun v =>
  .op (.load xbM xRect.toLoadRect (View.loadsAt_vmem h_S256x8192)) fun _ =>
  .op (.store xbM xRect (k0_pay1 v) Finset.univ (View.stores_vmem h_S256x8192 ((Memref.isWhole_whole cc0_scratch0).storeExact_slice rfl _ packedbf16_S256x8192_S256x8192_0_0) (fun _ => rfl)) (.inl rfl)) fun _ => k
/-- Tell the `n`-th other device that its rows here may be filled. -/
def pSignal (d : Dev nD) (n : Fin 32) (k : KProg F) : KProg F :=
  .op (.semSignal ((sigDev d n : Dev nD) : Thread nD τ) barSem (1#32).toInt) fun _ => k
/-- Wait until every other device has said so. -/
def pBarrier (k : KProg F) : KProg F := .op (.semWait barSem (31#32).toInt) fun _ => k
/-- Multiply the rounded block by chunk `i`. -/
def pMul (i : Fin 8) (k : KProg F) : KProg F :=
  .op (.load xbM xRect.toLoadRect (View.loadsAt_vmem h_S256x8192)) fun v =>
  .op (.load wbM (slotRect (slotOf i)).toLoadRect (View.loadsAt_vmem h_S1x8192x512)) fun u =>
  .op (.load mbM mRect.toLoadRect (View.loadsAt_vmem h_S256x512)) fun _ =>
  .op (.store mbM mRect (k0_pay2 v u) Finset.univ (View.stores_vmem h_S256x512 ((Memref.isWhole_whole cc0_scratch2).storeExact_slice rfl _ packedbf16_S256x512_S256x512_0_0) (fun _ => rfl)) (.inl rfl)) fun _ => k
/-- Keep tile 0: it goes into this device's own rows. -/
def pKeep (d : Dev nD) (k : KProg F) : KProg F :=
  .op (.load mbM (colsRect d 0).toLoadRect (View.loadsAt_vmem h_S256x128)) fun v =>
  .op (.load rbM (ownRect d).toLoadRect (View.loadsAt_vmem h_S256x128)) fun _ =>
  .op (.store rbM (ownRect d) (k0_pay3 v) Finset.univ (View.stores_vmem h_S256x128 ((Memref.isWhole_whole cc0_scratch4).storeExact_slice rfl _ (k0_off3_packedbf16 d)) (fun _ => rfl)) (.inl rfl)) fun _ => k
/-- Put tile `t` in its place and send it. -/
def pSend (d : Dev nD) (t : Fin 32) (k : KProg F) : KProg F :=
  .op (.load mbM (colsRect d (partOf t)).toLoadRect (View.loadsAt_vmem h_S256x128)) fun v =>
  .op (.load tlM (tileRect t).toLoadRect (View.loadsAt_vmem h_S1x256x128)) fun _ =>
  .op (.store tlM (tileRect t) (k0_pay4 v) Finset.univ (View.stores_vmem h_S1x256x128 ((Memref.isWhole_whole cc0_scratch3).storeExact_slice rfl _ (tile_packed t)) (fun _ => rfl)) (.inl rfl)) fun _ =>
  .op (.enqueueDma (tileM t) (.remote (Dev.tc (sendDev d t)) (rowsM d) (.dma (sendSem t))) (.dma (recvSem t))
    (((Memref.isWhole_whole cc0_scratch3).wordExact_slice rfl _ (tile_words t)).reshape _ _) ((Memref.isWhole_whole cc0_scratch4).wordExact_slice rfl _ (k0_off4_wordsbf16 d)) ⟨⟨rfl, Or.inl rfl⟩, trivial⟩) fun _ => k
/-- One tile. -/
def pTile (d : Dev nD) (t : Fin 32) (k : KProg F) : KProg F := if t = 0 then pKeep d k else pSend d t k
/-- Wait for the tile that lands here on receive semaphore `t`. -/
def pRecv (d : Dev nD) (t : Fin 32) (k : KProg F) : KProg F :=
  .op (.waitDma2 (recvSem t) (tileM t) (rowsM d)
    (((Memref.isWhole_whole cc0_scratch3).wordExact_slice rfl _ (tile_words t)).reshape _ _) ((Memref.isWhole_whole cc0_scratch4).wordExact_slice rfl _ (k0_off4_wordsbf16 d))) fun _ => k
/-- Write the received rows out. -/
def pOut (k : KProg F) : KProg F :=
  .op (.load rbM oRect.toLoadRect (View.loadsAt_vmem h_S8192x128)) fun v =>
  .op (.load oM oRect.toLoadRect (View.loadsAt_vmem h_S8192x128)) fun _ =>
  .op (.store oM oRect (k0_pay43 v) Finset.univ (View.stores_vmem_bits_univ h_S8192x128 rfl) (.inl rfl)) fun _ => k
/-- Wait until tile `t` has left. -/
def pSent (d : Dev nD) (t : Fin 32) (k : KProg F) : KProg F :=
  .op (.waitDma2 (sendSem t) (rowsM d) (tileM t)
    ((Memref.isWhole_whole cc0_scratch4).wordExact_slice rfl _ (k0_off4_wordsbf16 d)) (((Memref.isWhole_whole cc0_scratch3).wordExact_slice rfl _ (tile_words t)).reshape _ _)) fun _ => k

/-- The chunk after `i`, if there is one, starts before chunk `i` is waited for. -/
def pNext (d : Dev nD) : Fin 8 → KProg F → KProg F
  | 0, k => pCopy d 1 k
  | 1, k => pCopy d 2 k
  | 2, k => pCopy d 3 k
  | 3, k => pCopy d 4 k
  | 4, k => pCopy d 5 k
  | 5, k => pCopy d 6 k
  | 6, k => pCopy d 7 k
  | 7, k => k

/-- The four tiles of chunk `i`. -/
def tilesOf (i : Fin 8) : List (Fin 32) := [⟨4 * i.val, by omega⟩, ⟨4 * i.val + 1, by omega⟩, ⟨4 * i.val + 2, by omega⟩, ⟨4 * i.val + 3, by omega⟩]

/-- Chunk `i`. -/
def pChunk (d : Dev nD) (i : Fin 8) (k : KProg F) : KProg F := pNext d i (pCopied d i (pMul i (steps (pTile d) (tilesOf i) k)))

/-- The numbers from 1 to 31. -/
def others : List (Fin 32) :=
  [1, 2, 3, 4, 5, 6, 7, 8, 9, 10, 11, 12, 13, 14, 15, 16, 17, 18, 19, 20, 21, 22, 23, 24, 25, 26, 27, 28, 29, 30, 31]
/-- The eight chunks. -/
def chunks : List (Fin 8) := [0, 1, 2, 3, 4, 5, 6, 7]

/-- The whole body on device `d`. -/
def bodyOn (d : Dev nD) : KProg F :=
  pCopy d 0 <| pRound <| steps (pSignal d) others <| pBarrier <| steps (pChunk d) chunks <| steps (pRecv d) others <| pOut <|
    steps (pSent d) others <| .ret ⟨⟩

set_option maxRecDepth 100000 in
set_option maxHeartbeats 4000000 in
/-- The printed body is: ask which device this is, then run the program above. -/
theorem body_eq :
    cc0_body (F := F) xM (Memref.isWhole_whole _) wM (Memref.isWhole_whole _) oM (Memref.isWhole_whole _) xbM (Memref.isWhole_whole _)
      wbM (Memref.isWhole_whole _) mbM (Memref.isWhole_whole _) tlM (Memref.isWhole_whole _) rbM (Memref.isWhole_whole _)
      cc0_scratch5 cc0_scratch6 cc0_scratch7 = .op .deviceId fun d => bodyOn d := by
  rfl

end Cert.KernelIdealProof

end
-- ==== Proof.KernelIdeal.Devs.lean ====
/-
# Which device each step names

The printed device numbers and offsets in closed form. Signal `n` of device `d` goes to device `(d + n) mod 32`. Tile `t`
goes to the device whose place in the 8 by 4 mesh is `d`'s moved by `(t / 4, t mod 4)`. Both are, for each device, a
renumbering of all the devices that leaves number 0 with the device itself.
-/
module

public import proofs.«01_k».proof.Proof.KernelIdeal.Body

@[expose] public section

noncomputable section

namespace Cert.KernelIdealProof

open Cert.KernelIdeal Cert.KernelIdeal.Gen
open Idealize.ShloMosaic Idealize.ShloMosaic.TcCoe

/-- Signal `n` goes `n` devices up. -/
theorem sigDev_val : ∀ (d : Dev nD) (n : Fin 32), (sigDev d n).val = (d.val + n.val) % 32 := by decide +kernel
/-- Tile `t` goes `t / 4` rows and `t mod 4` columns on in the mesh. -/
theorem sendDev_val : ∀ (d : Dev nD) (t : Fin 32),
    (sendDev d t).val = 4 * ((d.val / 4 + t.val / 4) % 8) + (d.val % 4 + t.val % 4) % 4 := by decide +kernel
/-- Where chunk `i`'s columns of `w` start. -/
theorem off1_eq : ∀ (d : Dev nD) (i : Fin 8), k0_off1 d (BitVec.ofNat 32 i.val) = ![0, 512 * ((d.val / 4 + i.val) % 8)] := by decide +kernel
/-- Where the columns of a chunk's `r`-th tile start. -/
theorem off2_eq : ∀ (d : Dev nD) (r : Fin 4), k0_off2 d (BitVec.ofNat 32 r.val) = ![0, 128 * ((d.val % 4 + r.val) % 4)] := by decide +kernel

/-- The device that signals `d` with its `n`-th signal. -/
def sigBack (d : Dev nD) (n : Fin 32) : Dev nD := ⟨(d.val + (32 - n.val)) % 32, Nat.mod_lt _ (by decide)⟩
/-- The number of the signal by which `d` reaches `j`. -/
def sigNo (d j : Dev nD) : Fin 32 := ⟨(j.val + (32 - d.val)) % 32, Nat.mod_lt _ (by decide)⟩
/-- The device whose tile `t` goes to `j`. -/
def srcDev (j : Dev nD) (t : Fin 32) : Dev nD :=
  ⟨4 * ((j.val / 4 + (8 - t.val / 4)) % 8) + (j.val % 4 + (4 - t.val % 4)) % 4,
    show _ < 32 by have := Nat.mod_lt (j.val / 4 + (8 - t.val / 4)) (show 0 < 8 by decide); have := Nat.mod_lt (j.val % 4 + (4 - t.val % 4)) (show 0 < 4 by decide); omega⟩
/-- The tile of device `d` that goes to `j`. -/
def tileNo (d j : Dev nD) : Fin 32 :=
  ⟨4 * ((j.val / 4 + (8 - d.val / 4)) % 8) + (j.val % 4 + (4 - d.val % 4)) % 4,
    by have := Nat.mod_lt (j.val / 4 + (8 - d.val / 4)) (show 0 < 8 by decide); have := Nat.mod_lt (j.val % 4 + (4 - d.val % 4)) (show 0 < 4 by decide); omega⟩

theorem sigNo_sigDev : ∀ (d : Dev nD) (n : Fin 32), sigNo d (sigDev d n) = n := by decide +kernel
theorem sigDev_sigNo : ∀ d j : Dev nD, sigDev d (sigNo d j) = j := by decide +kernel
theorem tileNo_sendDev : ∀ (d : Dev nD) (t : Fin 32), tileNo d (sendDev d t) = t := by decide +kernel
theorem sendDev_tileNo : ∀ d j : Dev nD, sendDev d (tileNo d j) = j := by decide +kernel
theorem srcDev_sendDev : ∀ (d : Dev nD) (t : Fin 32), srcDev (sendDev d t) t = d := by decide +kernel
theorem sendDev_srcDev : ∀ (j : Dev nD) (t : Fin 32), sendDev (srcDev j t) t = j := by decide +kernel
theorem tileNo_srcDev : ∀ (j : Dev nD) (t : Fin 32), tileNo (srcDev j t) j = t := by decide +kernel
theorem srcDev_tileNo : ∀ d j : Dev nD, srcDev j (tileNo d j) = d := by decide +kernel

theorem sigDev_zero (d : Dev nD) : sigDev d 0 = d := rfl
theorem sendDev_zero (d : Dev nD) : sendDev d 0 = d := rfl
theorem srcDev_zero : ∀ j : Dev nD, srcDev j 0 = j := by decide +kernel

/-- A device's 32 signal numbers are the 32 devices. -/
def sigEquiv (d : Dev nD) : Fin 32 ≃ Dev nD := ⟨sigDev d, sigNo d, sigNo_sigDev d, sigDev_sigNo d⟩
/-- A device's 32 tiles go to the 32 devices. -/
def sendEquiv (d : Dev nD) : Fin 32 ≃ Dev nD := ⟨sendDev d, tileNo d, tileNo_sendDev d, sendDev_tileNo d⟩
/-- The tile `t` of all devices goes to all devices. -/
def passEquiv (t : Fin 32) : Dev nD ≃ Dev nD := ⟨fun d => sendDev d t, fun j => srcDev j t, fun d => srcDev_sendDev d t, fun j => sendDev_srcDev j t⟩
/-- A device's 32 rows of blocks come from the 32 devices. -/
def srcEquiv (j : Dev nD) : Fin 32 ≃ Dev nD := ⟨srcDev j, fun d => tileNo d j, fun t => tileNo_srcDev j t, fun d => srcDev_tileNo d j⟩

/-- All the numbers are 0 and the others. -/
theorem zero_others_nodup : ((0 : Fin 32) :: others).Nodup := by decide
theorem zero_others_all : ∀ t : Fin 32, t ∈ (0 : Fin 32) :: others := by decide
theorem others_ne_zero : ∀ t ∈ others, t ≠ 0 := by decide
/-- The chunks' tiles, in order, are all the tiles. -/
theorem chunks_tiles : chunks.flatMap tilesOf = (0 : Fin 32) :: others := by decide

end Cert.KernelIdealProof

end
-- ==== Proof.KernelIdeal.Proto.lean ====
/-
# The exchange's protocol

Every device has one barrier cell and, for each tile number, a send cell and a receive cell. A unit on a barrier cell
hands over the rows that its payer keeps for the cell's owner. A tile's landing on its receiver's cell hands over the
rows with the tile in them, and on its sender's cell the tile's own place back. Tile 0 never leaves its device, so its
two cells stay unused.

The module states what the buffers hold, the schedule of the cells, and what each device owes at the start.
-/
module

public import proofs.«01_k».proof.Proof.KernelIdeal.Devs
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging pipeline's, the exchange's, and counters for the copies of `w` -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

variable (m : (ℓ : Loc nD τ sig) → Buf (Elt F) ℓ)

/-! ## What the buffers hold -/

/-- Device `c`'s block of `x`. -/
def xAt (c : Dev nD) : Vec F S256x8192 .f32 := (win0_0.blk (0 : Fin 1)).view.read (Elt F) (m ((c : Thread nD τ).loc main_arg0))

/-- The columns of `w` that device `c` multiplies by in its chunk `i`. -/
def wAt (c : Dev nD) (i : Fin 8) : Vec F S8192x512 .f32 := (wChunkM c i).view.read (Elt F) (m ((c : Thread nD τ).loc main_arg1))

/-- A chunk of `w` as it lies in its slot. -/
def inSlot (w : Vec F S8192x512 .f32) : Vec F S1x8192x512 .f32 := shapeCast S1x8192x512 w (by decide)

/-- The product of the rounded block by chunk `i`. -/
def prodAt (c : Dev nD) (i : Fin 8) : FVec F S256x512 .bf16 := k0_pay2 (k0_pay1 (xAt m c)) (inSlot (wAt m c i))

/-- Tile `t` of device `c`: a quarter of a chunk's product. -/
def tileAt (c : Dev nD) (t : Fin 32) : Vec F S256x128 .bf16 :=
  (mbM : Memref sig .tc .vmem S256x512 .bf16).view.readAt (Elt F) (colsRect c (partOf t)).toLoadRect (prodAt m c (chunkOf t))

/-! ## The parts of the buffers, as assertions -/

/-- Device `c`'s rows kept for device `q`. -/
def rowsPts (c q : Dev nD) (f : Buf (Elt F) ((rowsM q).view.loc (c : Thread nD τ))) : sProp 𝕄 :=
  (rowsM q).view.loc (c : Thread nD τ) ↦[(rowsM q).view.set]{fullShare} f
/-- Device `c`'s place for tile `t`. -/
def tilePts (c : Dev nD) (t : Fin 32) (f : Buf (Elt F) ((tileM t).view.loc (c : Thread nD τ))) : sProp 𝕄 :=
  (tileM t).view.loc (c : Thread nD τ) ↦[(tileM t).view.set]{fullShare} f
/-- Device `c`'s rows kept for `q`, holding `v`. -/
def rowsHold (c q : Dev nD) (v : Vec F S256x128 .bf16) : sProp 𝕄 :=
  iprop(∃ f, ⌜(rowsM q).view.read (Elt F) f = v⌝ ∗ rowsPts c q f)

instance rowsPts_storable (c q : Dev nD) (f) : BI.Storable (upEmb : UEmb _ 𝕄) (rowsPts (F := F) c q f) := by unfold rowsPts; infer_instance
instance tilePts_storable (c : Dev nD) (t : Fin 32) (f) : BI.Storable (upEmb : UEmb _ 𝕄) (tilePts (F := F) c t f) := by unfold tilePts; infer_instance
instance rowsHold_storable (c q : Dev nD) (v) : BI.Storable (upEmb : UEmb _ 𝕄) (rowsHold (F := F) c q v) := by unfold rowsHold; infer_instance

/-! ## The cells -/

/-- A cell's part in the exchange: the barrier, or the send (`false`) or receive (`true`) cell of a tile number. -/
abbrev Part : Type := Option (Bool × Fin 32)

/-- The semaphore that plays the part. -/
def csem : Part → SemLoc sig
  | none => .reg barSem
  | some (false, t) => .dma (sendSem t)
  | some (true, t) => .dma (recvSem t)

/-- The part that a semaphore plays, if any. -/
def partRole : SemLoc sig → Option Part
  | .reg s => if s = barSem then some none else none
  | .dma q =>
    if h : 4 ≤ q.val ∧ q.val < 36 then some (some (false, ⟨q.val - 4, by omega⟩))
    else if h : 36 ≤ q.val ∧ q.val < 68 then some (some (true, ⟨q.val - 36, by omega⟩)) else none

theorem partRole_csem : ∀ k : Part, partRole (csem k) = some k := by decide
theorem role_bar : partRole (.reg barSem) = some none := by decide
theorem role_send (t : Fin 32) : partRole (.dma (sendSem t)) = some (some (false, t)) := partRole_csem (some (false, t))
theorem role_recv (t : Fin 32) : partRole (.dma (recvSem t)) = some (some (true, t)) := partRole_csem (some (true, t))
theorem csem_injective : Function.Injective csem := fun a b h => by
  have := congrArg partRole h
  rw [partRole_csem, partRole_csem] at this
  exact Option.some.inj this

abbrev kcell (ck : Dev nD × Part) : GSem nD τ sig := ((ck.1 : Thread nD τ), csem ck.2)
abbrev barCell (c : Dev nD) : GSem nD τ sig := ((c : Thread nD τ), .reg barSem)
abbrev sendCell (c : Dev nD) (t : Fin 32) : GSem nD τ sig := ((c : Thread nD τ), .dma (sendSem t))
abbrev recvCell (c : Dev nD) (t : Fin 32) : GSem nD τ sig := ((c : Thread nD τ), .dma (recvSem t))

theorem kcell_injective : Function.Injective (kcell : Dev nD × Part → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

/-- What a tile's landing counts. -/
abbrev N : ℕ := (rowsM 0).view.dmaCredit
theorem N_pos : 0 < N := View.dmaCredit_pos _ (by decide)
theorem credit_rows (q : Dev nD) : (rowsM q).view.dmaCredit = N := rfl
theorem credit_tile (t : Fin 32) : (tileM t).view.dmaCredit = N := rfl

/-! ## The schedule -/

/-- Round 0 of a barrier cell has one unit from every other device; round 0 of a tile's cells has the one landing. -/
def ringRd : Rounds.Schedule (GSem nD τ sig) (Fin 32) 𝕄 where
  duties g r := if r = 0 ∧ g.1.2 = .tc then
      (match partRole g.2 with
      | some none => Finset.univ.erase g.1.1
      | some (some (_, t)) => if t = 0 then ∅ else {0}
      | none => ∅)
    else ∅
  unitless _ := False
  amount g _ _ := match partRole g.2 with
    | some none => 1
    | _ => N
  payload g _ d := match partRole g.2 with
    | some none => iprop(∃ f, rowsPts d g.1.1 f)
    | some (some (false, t)) => iprop(∃ f, tilePts g.1.1 t f)
    | some (some (true, t)) => rowsHold g.1.1 (srcDev g.1.1 t) (tileAt m (srcDev g.1.1 t) t)
    | none => iprop(emp)
  amount_pos g _ _ _ := by
    split
    · exact Nat.one_pos
    · exact N_pos

instance ringRd_payload_storable (g : GSem nD τ sig) (r : ℕ) (d : Fin 32) :
    BI.Storable (upEmb : UEmb _ 𝕄) ((ringRd (F := F) m).payload g r d) := by
  dsimp only [ringRd]
  split <;> infer_instance

section Sched
variable (c : Dev nD) (t : Fin 32)

theorem duties_bar : (ringRd (F := F) m).duties (barCell c) 0 = Finset.univ.erase c := by
  dsimp only [ringRd]; rw [if_pos ⟨rfl, rfl⟩, role_bar]
theorem duties_send (ht : t ≠ 0) : (ringRd (F := F) m).duties (sendCell c t) 0 = {0} := by
  dsimp only [ringRd]; rw [if_pos ⟨rfl, rfl⟩, role_send]; exact if_neg ht
theorem duties_recv (ht : t ≠ 0) : (ringRd (F := F) m).duties (recvCell c t) 0 = {0} := by
  dsimp only [ringRd]; rw [if_pos ⟨rfl, rfl⟩, role_recv]; exact if_neg ht
theorem duties_zero (b : Bool) (r : ℕ) : (ringRd (F := F) m).duties (kcell (c, some (b, 0))) r = ∅ := by
  dsimp only [ringRd]
  split
  · rw [partRole_csem]; exact if_pos rfl
  · rfl
theorem duties_later (g : GSem nD τ sig) : ∀ r, 1 ≤ r → (ringRd (F := F) m).duties g r = ∅ :=
  fun r hr => by dsimp only [ringRd]; exact if_neg fun h => by omega

theorem amount_bar (d : Fin 32) : (ringRd (F := F) m).amount (barCell c) 0 d = 1 := by dsimp only [ringRd]; rw [role_bar]
theorem amount_send (d : Fin 32) : (ringRd (F := F) m).amount (sendCell c t) 0 d = N := by dsimp only [ringRd]; rw [role_send]
theorem amount_recv (d : Fin 32) : (ringRd (F := F) m).amount (recvCell c t) 0 d = N := by dsimp only [ringRd]; rw [role_recv]

theorem expect_bar : (ringRd (F := F) m).expect (barCell c) 0 = 31 := by
  unfold Schedule.expect Schedule.amountOf
  rw [duties_bar, Finset.sum_congr rfl fun d _ => amount_bar m c d, Finset.sum_const, Finset.card_erase_of_mem (Finset.mem_univ _), Finset.card_univ,
    Fintype.card_fin, smul_eq_mul]
theorem expect_send (ht : t ≠ 0) : (ringRd (F := F) m).expect (sendCell c t) 0 = N := by
  unfold Schedule.expect Schedule.amountOf; rw [duties_send m c t ht, Finset.sum_singleton, amount_send]
theorem expect_recv (ht : t ≠ 0) : (ringRd (F := F) m).expect (recvCell c t) 0 = N := by
  unfold Schedule.expect Schedule.amountOf; rw [duties_recv m c t ht, Finset.sum_singleton, amount_recv]

theorem payload_bar (d : Fin 32) : (ringRd (F := F) m).payload (barCell c) 0 d = iprop(∃ f, rowsPts d c f) := by
  dsimp only [ringRd]; rw [role_bar]
theorem payload_send (d : Fin 32) : (ringRd (F := F) m).payload (sendCell c t) 0 d = iprop(∃ f, tilePts c t f) := by
  dsimp only [ringRd]; rw [role_send]
theorem payload_recv (d : Fin 32) : (ringRd (F := F) m).payload (recvCell c t) 0 d = rowsHold c (srcDev c t) (tileAt m (srcDev c t) t) := by
  dsimp only [ringRd]; rw [role_recv]

/-- All that the barrier round hands over: the rows that every other device keeps for `c`. -/
theorem rest_bar : bigSep ((ringRd (F := F) m).duties (barCell c) 0 \ ∅) (fun d => (ringRd (F := F) m).payload (barCell c) 0 d)
    = bigSep (Finset.univ.erase c) fun d : Dev nD => iprop(∃ f, rowsPts d c f) := by
  rw [Finset.sdiff_empty, duties_bar]; exact bigSep_congr fun d _ => payload_bar m c d
theorem rest_send (ht : t ≠ 0) : bigSep ((ringRd (F := F) m).duties (sendCell c t) 0 \ ∅) (fun d => (ringRd (F := F) m).payload (sendCell c t) 0 d)
    = iprop(∃ f, tilePts c t f) := by
  rw [Finset.sdiff_empty, duties_send m c t ht, bigSep_singleton, payload_send]
theorem rest_recv (ht : t ≠ 0) : bigSep ((ringRd (F := F) m).duties (recvCell c t) 0 \ ∅) (fun d => (ringRd (F := F) m).payload (recvCell c t) 0 d)
    = rowsHold c (srcDev c t) (tileAt m (srcDev c t) t) := by
  rw [Finset.sdiff_empty, duties_recv m c t ht, bigSep_singleton, payload_recv]

end Sched

/-! ## What a device owes -/

/-- For tile `t`, a landing at its receiver (nothing for tile 0). -/
def oweT1 (c : Dev nD) (t : Fin 32) : CellTallies nD τ sig Unit := if t = 0 then 0 else tallyAt (recvCell (sendDev c t) t) () N
/-- For the tiles of a list, last first. -/
def oweT (c : Dev nD) : List (Fin 32) → CellTallies nD τ sig Unit
  | [] => 0
  | t :: l => oweT c l + oweT1 c t
/-- For the signals of a list, on top of all the tiles. -/
def oweSig (c : Dev nD) : List (Fin 32) → CellTallies nD τ sig Unit
  | [] => oweT c (chunks.flatMap tilesOf)
  | n :: l => oweSig c l + tallyAt (barCell (sigDev c n)) () 1
/-- At the start: 31 signals and 31 tiles. -/
def O₀ (c : Dev nD) : CellTallies nD τ sig Unit := oweSig c others

def L (g : GSem nD τ sig) : Finset Unit := if g.1.2 = .tc then {()} else ∅
/-- The order in which cells are waited for: everything else, then barriers, then receive cells. -/
def lv (g : GSem nD τ sig) (_ : Unit) : ℕ := match partRole g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (t : Fin 32) (u : Unit) : lv (recvCell c t) u = 2 := by unfold lv; rw [role_recv]

/-- Everything in `O` is owed to cells above level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
theorem above_tally {b : ℕ} {g : GSem nD τ sig} {k : ℕ} (hg : g.1.2 = .tc) (hl : b < lv g ()) : Above b (tallyAt g () k) := fun g' u hp => by
  rw [tallyAt_apply] at hp
  by_cases h : g' = g ∧ u = ()
  · rw [h.1]; exact ⟨hg, hl⟩
  · rw [if_neg h] at hp; exact absurd hp (Nat.lt_irrefl 0)

theorem above_oweT (c : Dev nD) : ∀ l, Above 1 (oweT c l)
  | [] => above_zero 1
  | t :: l => above_add (above_oweT c l) (by
      unfold oweT1; split
      · exact above_zero 1
      · exact above_tally rfl (by rw [lv_recv]; decide))
theorem above_oweSig (c : Dev nD) : ∀ l, Above 0 (oweSig c l)
  | [] => fun g u h => ⟨(above_oweT c _ g u h).1, lt_trans Nat.zero_lt_one (above_oweT c _ g u h).2⟩
  | n :: l => above_add (above_oweSig c l) (above_tally rfl (by rw [lv_bar]; decide))

/-- A device may wait for a cell no higher than a level that everything it owes is above. -/
theorem mayWait_above (c : Dev nD) (sm : SemLoc sig) (b : ℕ) (O : CellTallies nD τ sig Unit) (hs : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.KernelIdealProof

end
-- ==== Proof.KernelIdeal.Steps.lean ====
/-
# The steps that stay on one device

One rule per local step: starting a copy of `w` and waiting for it, rounding `x`, multiplying by a chunk, keeping tile 0,
writing the result. A rule says what the step needs, what it leaves, and what the buffers then hold.
-/
module

public import proofs.«01_k».proof.Proof.KernelIdeal.Proto
public import Idealize.ShloMosaic.Lib.Pipeline.BigSepL

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program runs on device `c` and, however it ends, `Q` holds then. -/
abbrev runs (c : Dev nD) (k : KProg F) (Q : PUnit → sProp 𝕄) : sProp 𝕄 :=
  wp frame (wpE (defs₀ (F := F)) 𝒱₀ (c : Thread nD τ) none) Set.univ k Q

/-- Device `c` owes `O`, having waited for whatever. -/
def owesAny (c : Dev nD) (O : CellTallies nD τ sig Unit) : sProp 𝕄 := iprop(∃ W, owes (c : Thread nD τ) O W)

/-- The order of the cells, as known to all. -/
def order : sProp 𝕄 := levAts L lv
instance order_persistent : BI.Persistent (order (F := F)) := by unfold order; infer_instance

/-! ## A list of steps -/

/-- A rule for each step of a list, under a condition that passes to the rest of the list, is a rule for the list. -/
theorem runs_steps {I : Type} (c : Dev nD) (R : sProp 𝕄) [BI.Persistent R] (f : I → KProg F → KProg F) (ok : List I → Prop)
    (hok : ∀ i l, ok (i :: l) → ok l) (Pre Post : I → sProp 𝕄) (S : List I → sProp 𝕄) {Q : PUnit → sProp 𝕄}
    (h : ∀ i l k, ok (i :: l) → iprop(R ∗ Pre i ∗ S (i :: l)) ⊢ iprop((iprop(Post i ∗ S l) -∗ runs c k Q) -∗ runs c (f i k) Q)) :
    ∀ l, ok l → ∀ k, iprop(R ∗ bigSepL l Pre ∗ S l) ⊢ iprop((iprop(bigSepL l Post ∗ S []) -∗ runs c k Q) -∗ runs c (steps f l k) Q)
  | [], _, k => by
    iintro ⟨-, -, HS⟩ Hk
    iapply Hk
    isplitr; · rw [bigSepL_nil]; iempintro
    iexact HS
  | i :: l, hl, k => by
    have ih := runs_steps c R f ok hok Pre Post S (Q := Q) h l (hok i l hl) k
    rw [bigSepL_cons' i l Pre, bigSepL_cons' i l Post]
    iintro ⟨#HR, ⟨Hi, Hl⟩, HS⟩ Hk
    iapply (h i l (steps f l k) hl) $$ [Hi HS]
    · isplitr; · iexact HR
      isplitl [Hi] <;> iassumption
    iintro ⟨Hi, HS⟩
    iapply ih $$ [Hl HS]
    · isplitr; · iexact HR
      isplitl [Hl] <;> iassumption
    iintro ⟨Hl, HS⟩
    iapply Hk
    isplitr [HS]
    · isplitl [Hi] <;> iassumption
    iexact HS

/-! ## Whole buffers -/

/-- Device `c` has buffer `b` whole, holding `f`. -/
abbrev has (c : Dev nD) (b : Ref sig .tc) (f : Buf (Elt F) ((c : Thread nD τ).loc b)) : sProp 𝕄 := ((c : Thread nD τ).loc b) ↦{fullShare} f

theorem hz : (![0, 0] : Fin 2 → Nat) = fun _ => 0 := funext fun a => by fin_cases a <;> rfl

theorem read_xM (f : Vec F S256x8192 .f32) : (xM : Memref sig .tc .vmem S256x8192 .f32).view.readAt (Elt F) xRect.toLoadRect f = f :=
  Memref.readAt_unit_zero (Elt F) cc0_stg0_0 hz _ f
theorem read_xbM (f : Vec F S256x8192 .bf16) : (xbM : Memref sig .tc .vmem S256x8192 .bf16).view.readAt (Elt F) xRect.toLoadRect f = f :=
  Memref.readAt_unit_zero (Elt F) cc0_scratch0 hz _ f
theorem read_rbM (f : Vec F S8192x128 .bf16) : (rbM : Memref sig .tc .vmem S8192x128 .bf16).view.readAt (Elt F) oRect.toLoadRect f = f :=
  Memref.readAt_unit_zero (Elt F) cc0_scratch4 hz _ f
theorem write_xbM (f w : Vec F S256x8192 .bf16) :
    ((xbM : Memref sig .tc .vmem S256x8192 .bf16).access xRect : View sig .tc _ _ _).write (Elt F) f w Finset.univ = w :=
  Memref.write_access_unit_zero_univ (Elt F) cc0_scratch0 hz _ f w
theorem write_mbM (f w : Vec F S256x512 .bf16) :
    ((mbM : Memref sig .tc .vmem S256x512 .bf16).access mRect : View sig .tc _ _ _).write (Elt F) f w Finset.univ = w :=
  Memref.write_access_unit_zero_univ (Elt F) cc0_scratch2 hz _ f w
theorem write_oM (f w : Vec F S8192x128 .f32) :
    ((oM : Memref sig .tc .vmem S8192x128 .f32).access oRect : View sig .tc _ _ _).write (Elt F) f w Finset.univ = w :=
  Memref.write_access_unit_zero_univ (Elt F) cc0_stg1_0 hz _ f w

/-- Rounding the block of `x`. -/
theorem round_step (c : Dev nD) {k : KProg F} {Q : PUnit → sProp 𝕄} (f : Vec F S256x8192 .f32) (g : Buf (Elt F) ((c : Thread nD τ).loc cc0_scratch0)) :
    iprop(has c cc0_stg0_0 f ∗ has c cc0_scratch0 g)
      ⊢ iprop((iprop(has c cc0_stg0_0 f ∗ has c cc0_scratch0 (k0_pay1 f)) -∗ runs c k Q) -∗ runs c (pRound k) Q) := by
  unfold pRound
  iintro ⟨Hx, Hb⟩ Hk
  iapply (wp_load 𝒱₀ (c : Thread nD τ) none Set.univ (m := xM) (Finset.subset_univ _)) $$ Hx; iintro Hx
  rw [read_xM]
  iapply (wp_load 𝒱₀ (c : Thread nD τ) none Set.univ (m := xbM) (Finset.subset_univ _)) $$ Hb; iintro Hb
  iapply (wp_store 𝒱₀ (c : Thread nD τ) none Set.univ (m := xbM) (r := xRect) (Mk := Finset.univ) (Finset.subset_univ _)) $$ Hb; iintro Hb
  rw [write_xbM]
  iapply Hk
  isplitl [Hx] <;> iassumption

/-- Writing the received rows out. -/
theorem out_step (c : Dev nD) {k : KProg F} {Q : PUnit → sProp 𝕄} (f : Vec F S8192x128 .bf16) (g : Buf (Elt F) ((c : Thread nD τ).loc cc0_stg1_0)) :
    iprop(has c cc0_scratch4 f ∗ has c cc0_stg1_0 g)
      ⊢ iprop((iprop(has c cc0_scratch4 f ∗ has c cc0_stg1_0 (k0_pay43 f)) -∗ runs c k Q) -∗ runs c (pOut k) Q) := by
  unfold pOut
  iintro ⟨Hx, Hb⟩ Hk
  iapply (wp_load 𝒱₀ (c : Thread nD τ) none Set.univ (m := rbM) (Finset.subset_univ _)) $$ Hx; iintro Hx
  rw [read_rbM]
  iapply (wp_load 𝒱₀ (c : Thread nD τ) none Set.univ (m := oM) (Finset.subset_univ _)) $$ Hb; iintro Hb
  iapply (wp_store 𝒱₀ (c : Thread nD τ) none Set.univ (m := oM) (r := oRect) (Mk := Finset.univ) (Finset.subset_univ _)) $$ Hb; iintro Hb
  rw [write_oM]
  iapply Hk
  isplitl [Hx] <;> iassumption

/-! ## The copies of `w` -/

/-- Slot `s` of the weight buffer, holding `f`. -/
def slotPts (c : Dev nD) (s : Fin 2) (f : Buf (Elt F) ((slotM s).view.loc (c : Thread nD τ))) : sProp 𝕄 :=
  (slotM s).view.loc (c : Thread nD τ) ↦[(slotM s).view.set]{fullShare} f

/-- Half of the right to read `w`, one half for each slot. -/
def half (s : Fin 2) : PosShare TreeShare := if s = 0 then fullShare.left else fullShare.right
def wHalf (c : Dev nD) (s : Fin 2) : sProp 𝕄 := ((c : Thread nD τ).loc main_arg1) ↦{half s} m ((c : Thread nD τ).loc main_arg1)

/-- What a chunk's landing counts. -/
abbrev NC : ℕ := (slotM 0).view.dmaCredit

/-- Slot `s` waits for its next copy. -/
def idle (c : Dev nD) (s : Fin 2) : sProp 𝕄 :=
  iprop((∃ f, slotPts c s f) ∗ wHalf m c s ∗ semVal ((c : Thread nD τ), .dma (copySem s)) 0)
/-- Chunk `i` is in its slot. -/
def loaded (c : Dev nD) (i : Fin 8) : sProp 𝕄 :=
  iprop((∃ f, ⌜(slotM (slotOf i)).view.read (Elt F) f = wAt m c i⌝ ∗ slotPts c (slotOf i) f) ∗ wHalf m c (slotOf i)
    ∗ semVal ((c : Thread nD τ), .dma (copySem (slotOf i))) 0)
/-- Chunk `i` is on its way to its slot. -/
def flying (c : Dev nD) (i : Fin 8) : sProp 𝕄 :=
  iprop((∃ f, Transfers.Flight EC (c : Thread nD τ) (.dma (copySem (slotOf i))) () NC
      iprop(((slotM (slotOf i)).view.loc (c : Thread nD τ) ↦[(slotM (slotOf i)).view.set]{fullShare}
            ((slotM (slotOf i)).view.write (Elt F) f (wAt m c i) Finset.univ))
        ∗ ((wChunkM c i).view.loc (c : Thread nD τ) ↦[(wChunkM c i).view.set]{half (slotOf i)} m ((c : Thread nD τ).loc main_arg1))))
    ∗ ((wChunkM c i).view.loc (c : Thread nD τ) ↦[Finset.univ \ (wChunkM c i).view.set]{half (slotOf i)} m ((c : Thread nD τ).loc main_arg1)))

/-- Starting a copy: its slot must be waiting. -/
theorem copy_step (c : Dev nD) (i : Fin 8) {k : KProg F} {Q : PUnit → sProp 𝕄} :
    idle m c (slotOf i) ⊢ iprop((flying m c i -∗ runs c k Q) -∗ runs c (pCopy c i k) Q) := by
  unfold pCopy idle wHalf flying slotPts
  iintro ⟨⟨%f, Hs⟩, Hw, Hv⟩ Hk
  ihave Hw' := (pointsTo_split_subset (ℓ := (wChunkM c i).view.loc (c : Thread nD τ)) (q := half (slotOf i)) (Finset.subset_univ (wChunkM c i).view.set)).1 $$ Hw
  icases Hw' with ⟨Hw, Hrest⟩
  iapply (Transfers.wp_dmaLocal EC 𝒱₀ (c : Thread nD τ) none (src := wChunkM c i) (dst := slotM (slotOf i)) () NC rfl (View.dmaCredit_pos _ (by decide)) (Finset.Subset.refl _)) $$ [Hs Hw Hv]
  · isplitl [Hw]; · iexact Hw
    isplitl [Hs]; · iexact Hs
    iexact Hv
  iintro HF
  iapply Hk
  isplitl [HF]
  · iexists f; iexact HF
  iexact Hrest

theorem role_copy : ∀ s : Fin 2, partRole (.dma (copySem s)) = none := by decide

/-- Waiting for a copy, owing landings above the copies' level. -/
theorem copied_step (c : Dev nD) (i : Fin 8) (O : CellTallies nD τ sig Unit) (hO : Above 0 O) {k : KProg F} {Q : PUnit → sProp 𝕄} :
    iprop(order ∗ flying m c i ∗ owesAny c O)
      ⊢ iprop((iprop(loaded m c i ∗ owesAny c O) -∗ runs c k Q) -∗ runs c (pCopied c i k) Q) := by
  unfold pCopied flying loaded owesAny wHalf slotPts order
  iintro ⟨#Hlev, ⟨⟨%f, HF⟩, Hrest⟩, ⟨%W, HO⟩⟩ Hk
  iapply (Transfers.wp_waitLocalO EC 𝒱₀ (c : Thread nD τ) none (N := NC) () (by rfl)) $$ [HF HO]
  · isplitl [HF]; · iexact HF
    isplitl [HO]; · iexact HO
    iapply (mayWait_above c (.dma (copySem (slotOf i))) 0 O (by unfold lv; rw [role_copy]) hO); iexact Hlev
  iintro ⟨⟨Hs, Hw⟩, Hv, HO⟩
  iapply Hk
  isplitr [HO]
  · isplitl [Hs]
    · iexists _; isplitr; swap; · iexact Hs
      ipureintro; exact View.read_write_univ _ _
    isplitl [Hw Hrest]
    · iapply (pointsTo_split_subset (ℓ := (wChunkM c i).view.loc (c : Thread nD τ)) (q := half (slotOf i)) (Finset.subset_univ (wChunkM c i).view.set)).2
      isplitl [Hw] <;> iassumption
    iexact Hv
  iexists _; iexact HO

/-- A view read through another shape of itself, and back, is the view read. -/
theorem read_reshape_back {sp : Space} {s s' : Shape} {e : EltTy} (v : View sig .tc sp s e) (h : s'.numel = s.numel) (h' : s.numel = s'.numel)
    (f : v.ty.Contents (Elt F)) : v.read (Elt F) f = fun x => (v.reshape s' h).read (Elt F) f (Shape.reshapeEquiv h' x) := by
  funext x
  show _ = v.read (Elt F) f (Shape.reshapeEquiv h (Shape.reshapeEquiv h' x))
  rw [Shape.reshapeEquiv_reshapeEquiv, Shape.reshapeEquiv_self]

/-- What a load of a slot reads is the chunk that lies in it. -/
theorem slot_read (s : Fin 2) (f : (cc0_scratch1 : Ref sig .tc).ty.Contents (Elt F)) :
    (wbM.access (slotRect s)).read (Elt F) f = inSlot ((slotM s).view.read (Elt F) f) := by
  unfold inSlot shapeCast
  exact read_reshape_back (s' := S8192x512) (wbM.view.slice (slotRect s)) squeezes_S1x8192x512_S8192x512.numel_eq _ f

theorem slot_set (s : Fin 2) : (slotM s).view.set = (wbM.access (slotRect s)).set := View.set_reshape _ _

/-- Multiplying what the rounded block's buffer holds by a chunk that is in its slot. -/
theorem mul_step_of (c : Dev nD) (i : Fin 8) {k : KProg F} {Q : PUnit → sProp 𝕄} (X : Vec F S256x8192 .bf16) :
    iprop(has c cc0_scratch0 X ∗ loaded m c i ∗ ∃ g, has c cc0_scratch2 g)
      ⊢ iprop((iprop(has c cc0_scratch0 X ∗ idle m c (slotOf i) ∗ has c cc0_scratch2 (k0_pay2 X (inSlot (wAt m c i)))) -∗ runs c k Q)
          -∗ runs c (pMul i k) Q) := by
  unfold pMul loaded idle slotPts
  iintro ⟨Hb, ⟨⟨%f, %hf, Hs⟩, Hw, Hv⟩, ⟨%g, Hm⟩⟩ Hk
  iapply (wp_load 𝒱₀ (c : Thread nD τ) none Set.univ (m := xbM) (Finset.subset_univ _)) $$ Hb; iintro Hb
  rw [read_xbM]
  iapply (wp_load_rect 𝒱₀ (c : Thread nD τ) none Set.univ (m := wbM) (r := slotRect (slotOf i)) (slot_set (slotOf i)).ge) $$ Hs; iintro Hs
  rw [slot_read, hf]
  iapply (wp_load 𝒱₀ (c : Thread nD τ) none Set.univ (m := mbM) (Finset.subset_univ _)) $$ Hm; iintro Hm
  iapply (wp_store 𝒱₀ (c : Thread nD τ) none Set.univ (m := mbM) (r := mRect) (Mk := Finset.univ) (Finset.subset_univ _)) $$ Hm; iintro Hm
  rw [write_mbM]
  iapply Hk
  isplitl [Hb]; · iexact Hb
  isplitl [Hs Hw Hv]
  · isplitl [Hs]; · iexists f; iexact Hs
    isplitl [Hw] <;> iassumption
  iexact Hm

/-- Multiplying the rounded block by a chunk that is in its slot. -/
theorem mul_step (c : Dev nD) (i : Fin 8) {k : KProg F} {Q : PUnit → sProp 𝕄} :
    iprop(has c cc0_scratch0 (k0_pay1 (xAt m c)) ∗ loaded m c i ∗ ∃ g, has c cc0_scratch2 g)
      ⊢ iprop((iprop(has c cc0_scratch0 (k0_pay1 (xAt m c)) ∗ idle m c (slotOf i) ∗ has c cc0_scratch2 (prodAt m c i)) -∗ runs c k Q)
          -∗ runs c (pMul i k) Q) :=
  mul_step_of m c i (k0_pay1 (xAt m c))

/-! ## Tiles -/

/-- Parts of a view at equal offsets are the same part. -/
theorem same_part {sp : Space} {s : Shape} {e : EltTy} (v : View sig .tc sp s e) {o o' : Fin s.rank → Nat} (h : o = o') (sz : Fin s.rank → Nat)
    (i : ∀ a, o a + sz a ≤ s.size a) (i' : ∀ a, o' a + sz a ≤ s.size a) :
    (v.slice (Rect.unit (s := s) o sz i)).set = (v.slice (Rect.unit (s := s) o' sz i')).set
      ∧ ∀ (f : v.ty.Contents (Elt F)) (w : (⟨s.rank, sz⟩ : Shape).Idx → Elt F e),
        (v.slice (Rect.unit (s := s) o sz i)).read (Elt F) ((v.slice (Rect.unit (s := s) o' sz i')).write (Elt F) f w Finset.univ) = w := by
  subst h; exact ⟨rfl, fun f w => View.read_write_univ _ _⟩

/-- The two printed offsets of a device's own rows are the same. -/
theorem own_off (d : Dev nD) : k0_off4 d = k0_off3 d := (k0_off4_eq d).trans (k0_off3_eq d).symm

theorem pay3_eq (v : Vec F S256x128 .bf16) : k0_pay3 v = v := by
  funext x; show v (Shape.reshapeEquiv _ x) = v x; rw [Shape.reshapeEquiv_self]

/-- Keeping tile 0. -/
theorem keep_step (c : Dev nD) {k : KProg F} {Q : PUnit → sProp 𝕄} :
    iprop(has c cc0_scratch2 (prodAt m c 0) ∗ ∃ f, rowsPts c c f)
      ⊢ iprop((iprop(has c cc0_scratch2 (prodAt m c 0) ∗ rowsHold c c (tileAt m c 0)) -∗ runs c k Q) -∗ runs c (pKeep c k) Q) := by
  have hset : (rowsM c).view.set = (rbM.access (ownRect c)).set :=
    (same_part (F := F) rbM.view (own_off c) S256x128.size (k0_off4_inb c) (k0_off3_inb c)).1
  have hread : ∀ (f : (cc0_scratch4 : Ref sig .tc).ty.Contents (Elt F)) (v : Vec F S256x128 .bf16),
      (rowsM c).view.read (Elt F) ((rbM.access (ownRect c)).write (Elt F) f v Finset.univ) = v :=
    (same_part (F := F) rbM.view (own_off c) S256x128.size (k0_off4_inb c) (k0_off3_inb c)).2
  unfold pKeep rowsHold rowsPts
  iintro ⟨Hm, ⟨%f, Hr⟩⟩ Hk
  iapply (wp_load 𝒱₀ (c : Thread nD τ) none Set.univ (m := mbM) (Finset.subset_univ _)) $$ Hm; iintro Hm
  iapply (wp_load_rect 𝒱₀ (c : Thread nD τ) none Set.univ (m := rbM) (r := ownRect c) hset.ge) $$ Hr; iintro Hr
  iapply (wp_store 𝒱₀ (c : Thread nD τ) none Set.univ (m := rbM) (r := ownRect c) (Mk := Finset.univ) hset.ge) $$ Hr; iintro Hr
  iapply Hk
  isplitl [Hm]; · iexact Hm
  iexists _
  isplitr; swap; · iexact Hr
  ipureintro
  exact (hread _ _).trans (pay3_eq _)

end Cert.KernelIdealProof

end
-- ==== Proof.KernelIdeal.Parts.lean ====
/-
# The buffers cut into their parts, and put together again

The receive buffer is 32 bands of rows, one for each device; the tile buffer is 32 places; the weight buffer is two slots;
the right to read `w` is two halves. Also: what all devices have, told from device `c` outward.
-/
module

public import proofs.«01_k».proof.Proof.KernelIdeal.Steps
public import Idealize.ShloMosaic.Lib.Ring
public import Idealize.ShloMosaic.Lib.ViewIndex

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists -/

/-- Two assertions for each entry of a list are the one for each and the other for each. -/
theorem listed_sep {I : Type} (l : List I) (Φ Ψ : I → sProp 𝕄) :
    bigSepL l (fun i => iprop(Φ i ∗ Ψ i)) ⊣⊢ iprop(bigSepL l Φ ∗ bigSepL l Ψ) := by
  induction l with
  | nil => rw [bigSepL_nil]; exact ⟨(sep_emp (PROP := sProp 𝕄)).2, (sep_emp (PROP := sProp 𝕄)).1⟩
  | cons i l ih =>
    rw [bigSepL_cons', bigSepL_cons', bigSepL_cons']
    constructor
    · iintro ⟨⟨H1, H2⟩, Hl⟩
      ihave Hl := ih.1 $$ Hl
      icases Hl with ⟨Hl1, Hl2⟩
      isplitl [H1 Hl1]
      · isplitl [H1] <;> iassumption
      · isplitl [H2] <;> iassumption
    · iintro ⟨⟨H1, Hl1⟩, ⟨H2, Hl2⟩⟩
      isplitl [H1 H2]
      · isplitl [H1] <;> iassumption
      · iapply ih.2; isplitl [Hl1] <;> iassumption

/-- The entries of several lists, list by list. -/
theorem listed_flat {I J : Type} (l : List J) (g : J → List I) (Φ : I → sProp 𝕄) :
    bigSepL l (fun j => bigSepL (g j) Φ) = bigSepL (l.flatMap g) Φ := by
  induction l with
  | nil => rfl
  | cons j l ih => rw [bigSepL_cons', ih, List.flatMap_cons, bigSepL_append]

theorem mem_others : ∀ t : Fin 32, t ∈ others ↔ t ≠ 0 := by decide
theorem others_nodup : others.Nodup := by decide
theorem all_listed : (Finset.univ : Finset (Fin 32)) = ((0 : Fin 32) :: others).toFinset := by decide

/-- One assertion for each number is the one for 0 and those for the others. -/
theorem numbers_eq (Φ : Fin 32 → sProp 𝕄) : bigSep Finset.univ Φ = iprop(Φ 0 ∗ bigSepL others Φ) := by
  rw [bigSep_univ_eq_bigSepL _ all_listed zero_others_nodup Φ, bigSepL_cons']

/-- Numbered outward from `c`, one assertion for every other device. -/
theorem erase_eq (c : Dev nD) (e : Fin 32 ≃ Dev nD) (he : e 0 = c) (Ψ : Dev nD → sProp 𝕄) :
    bigSep (Finset.univ.erase c) Ψ = bigSepL others fun t => Ψ (e t) := by
  rw [← bigSepL_map (fun t => e t) others Ψ]
  refine bigSep_eq_bigSepL_of_eq _ ?_ (others_nodup.map e.injective) Ψ
  ext d
  simp only [Finset.mem_erase, Finset.mem_univ, and_true, List.mem_toFinset, List.mem_map, mem_others]
  constructor
  · intro h; exact ⟨e.symm d, fun h0 => h (by rw [← e.apply_symm_apply d, h0, he]), e.apply_symm_apply d⟩
  · rintro ⟨t, ht, rfl⟩ h; exact ht (e.injective (h.trans he.symm))

/-- Numbered outward from `c`, one assertion for every device. -/
theorem around_eq (c : Dev nD) (e : Fin 32 ≃ Dev nD) (he : e 0 = c) (Ψ : Dev nD → sProp 𝕄) :
    bigSep Finset.univ Ψ = iprop(Ψ c ∗ bigSepL others fun t => Ψ (e t)) := by
  rw [bigSep_univ_equiv e Ψ, numbers_eq, he]

/-! ## The receive buffer -/

theorem rows_set (q : Dev nD) : (rowsM q).view.set = (Rect.unit (s := S8192x128) (k0_off4 q) S256x128.size (k0_off4_inb q)).set :=
  View.set_slice_whole _ _
theorem rows_disjoint (q q' : Dev nD) (h : q ≠ q') : Disjoint (rowsM q).view.set (rowsM q').view.set := by
  rw [rows_set, rows_set]
  exact Ring.lead_disjoint (s := S8192x128) 0 256 (fun q : Fin 32 => k0_off4 q) S256x128.size k0_off4_inb (fun q => by rw [k0_off4_eq]; rfl) rfl q q' h
abbrev rowsSet (q : Dev nD) : Finset S8192x128.Idx := (rowsM q).view.set
theorem rows_cover : Finset.univ.biUnion rowsSet = Finset.univ := by
  rw [show rowsSet = fun q => (Rect.unit (s := S8192x128) (k0_off4 q) S256x128.size (k0_off4_inb q)).set from funext rows_set]
  exact Ring.lead_cover (s := S8192x128) 0 256 (fun q : Fin 32 => k0_off4 q) S256x128.size k0_off4_inb (fun q => by rw [k0_off4_eq]; rfl)
    (fun q a ha => by rw [k0_off4_eq]; fin_cases a <;> first | exact absurd rfl ha | rfl) rfl
    (fun a ha => by fin_cases a <;> first | exact absurd rfl ha | rfl) rfl

/-- The whole receive buffer is a band of rows for each device. -/
theorem rows_split (c : Dev nD) (f : Buf (Elt F) ((c : Thread nD τ).loc cc0_scratch4)) :
    (has c cc0_scratch4 f : sProp 𝕄) ⊢ bigSep Finset.univ fun q : Dev nD => iprop(∃ f, rowsPts c q f) := by
  have e := Ring.pointsTo_blocks (Ix := Unit) (Name := ℕ) (U := UU) (Lvl := ℕ) (Val := Elt F) (ℓ := (c : Thread nD τ).loc cc0_scratch4)
    rowsSet rows_disjoint rows_cover (q := fullShare) f
  have h : ∀ q : Dev nD, (((rowsM q).view.loc (c : Thread nD τ) ↦[(rowsM q).view.set]{fullShare} f) : sProp 𝕄) ⊢ iprop(∃ f, rowsPts c q f) := fun q => by
    unfold rowsPts
    iintro H; iexists f; iexact H
  exact (Entails.of_eq e).trans (bigSep_mono fun q _ => h q)

/-- One block of rows for each device, one below the other. -/
def stacked (v : Dev nD → Vec F S256x128 .bf16) : Vec F S8192x128 .bf16 := fun x =>
  v ⟨(x 0).val / 256, by have h : (x 0).val < 8192 := (x 0).isLt; show _ < 32; omega⟩
    (fun a => ⟨![(x 0).val % 256, (x 1).val] a, by
      have h : (x 1).val < 128 := (x 1).isLt
      fin_cases a
      · exact Nat.mod_lt _ (by decide)
      · exact h⟩)

/-- The band of a device in the blocks stacked is its block. -/
theorem rows_stacked (v : Dev nD → Vec F S256x128 .bf16) (q : Dev nD) :
    (rowsM q).view.read (Elt F) (stacked v : (cc0_scratch4 : Ref sig .tc).ty.Contents (Elt F)) = v q := by
  funext x
  have h0 : (((rowsM q).view.emb x : S8192x128.Idx) 0).val = 256 * q.val + (x 0).val := by
    show k0_off4 q 0 + 1 * (x 0).val = _
    rw [k0_off4_eq]; show 256 * q.val + 1 * (x 0).val = _; omega
  have h1 : (((rowsM q).view.emb x : S8192x128.Idx) 1).val = (x 1).val := by
    show k0_off4 q 1 + 1 * (x 1).val = _
    rw [k0_off4_eq]; show 0 + 1 * (x 1).val = _; omega
  have hx : (x 0).val < 256 := (x 0).isLt
  show stacked v ((rowsM q).view.emb x) = v q x
  unfold stacked
  have hq : (⟨(((rowsM q).view.emb x : S8192x128.Idx) 0).val / 256, by
      have h : (((rowsM q).view.emb x : S8192x128.Idx) 0).val < 8192 := (((rowsM q).view.emb x : S8192x128.Idx) 0).isLt
      show _ < 32; omega⟩ : Dev nD) = q := Fin.ext (by show _ / 256 = q.val; rw [h0]; omega)
  rw [hq]
  congr 1
  funext a
  apply Fin.ext
  fin_cases a
  · show (((rowsM q).view.emb x : S8192x128.Idx) 0).val % 256 = (x 0).val
    rw [h0]; omega
  · exact h1

/-- A band that holds its block holds what the blocks stacked have there. -/
theorem rows_hold_stacked (c : Dev nD) (v : Dev nD → Vec F S256x128 .bf16) (q : Dev nD) :
    (rowsHold c q (v q) : sProp 𝕄) ⊢ ((rowsM q).view.loc (c : Thread nD τ) ↦[(rowsM q).view.set]{fullShare} (stacked v : (cc0_scratch4 : Ref sig .tc).ty.Contents (Elt F))) := by
  unfold rowsHold rowsPts
  iintro ⟨%f, %hf, H⟩
  have hc : ∀ i ∈ (rowsM q).view.set, f i = (stacked v : (cc0_scratch4 : Ref sig .tc).ty.Contents (Elt F)) i := fun i hi => by
    obtain ⟨x, -, rfl⟩ := Finset.mem_map.mp hi
    exact View.eq_of_read_eq (congrFun (hf.trans (rows_stacked v q).symm) x)
  ihave H := (Entails.of_eq (pointsTo_congr (ℓ := (rowsM q).view.loc (c : Thread nD τ)) (q := fullShare) hc)) $$ H
  iexact H

/-- The bands, each holding a block, are the whole receive buffer holding the blocks stacked. -/
theorem rows_join (c : Dev nD) (v : Dev nD → Vec F S256x128 .bf16) :
    bigSep Finset.univ (fun q : Dev nD => rowsHold c q (v q)) ⊢ (has c cc0_scratch4 (stacked v) : sProp 𝕄) := by
  have e := Ring.pointsTo_blocks (Ix := Unit) (Name := ℕ) (U := UU) (Lvl := ℕ) (Val := Elt F) (ℓ := (c : Thread nD τ).loc cc0_scratch4)
    rowsSet rows_disjoint rows_cover (q := fullShare) (stacked v)
  refine (bigSep_mono fun q _ => rows_hold_stacked c v q).trans (Entails.of_eq e.symm)

/-! ## The tile buffer -/

theorem tile_rect_set (t : Fin 32) : (tileM t).view.set = (tileRect t).set := (View.set_reshape _ _).trans (View.set_slice_whole _ _)
theorem tiles_disjoint (t t' : Fin 32) (h : t ≠ t') : Disjoint (tileM t).view.set (tileM t').view.set := by
  rw [tile_rect_set, tile_rect_set]
  exact Ring.lead_disjoint (s := S32x256x128) 0 1 (fun t : Fin 32 => ![t.val, 0, 0]) S1x256x128.size tile_inb (fun t => (Nat.one_mul _).symm) rfl t t' h
abbrev tilesSet (t : Fin 32) : Finset S32x256x128.Idx := (tileM t).view.set
theorem tiles_cover : Finset.univ.biUnion tilesSet = Finset.univ := by
  rw [show tilesSet = fun t => (tileRect t).set from funext tile_rect_set]
  exact Ring.lead_cover (s := S32x256x128) 0 1 (fun t : Fin 32 => ![t.val, 0, 0]) S1x256x128.size tile_inb (fun t => (Nat.one_mul _).symm)
    (fun q a ha => by fin_cases a <;> first | exact absurd rfl ha | rfl) rfl
    (fun a ha => by fin_cases a <;> first | exact absurd rfl ha | rfl) rfl

/-- The whole tile buffer is 32 places. -/
theorem tiles_split (c : Dev nD) (f : Buf (Elt F) ((c : Thread nD τ).loc cc0_scratch3)) :
    (has c cc0_scratch3 f : sProp 𝕄) ⊢ bigSep Finset.univ fun t : Fin 32 => iprop(∃ f, tilePts c t f) := by
  have e := Ring.pointsTo_blocks (Ix := Unit) (Name := ℕ) (U := UU) (Lvl := ℕ) (Val := Elt F) (ℓ := (c : Thread nD τ).loc cc0_scratch3)
    tilesSet tiles_disjoint tiles_cover (q := fullShare) f
  have h : ∀ t : Fin 32, (((tileM t).view.loc (c : Thread nD τ) ↦[(tileM t).view.set]{fullShare} f) : sProp 𝕄) ⊢ iprop(∃ f, tilePts c t f) := fun t => by
    unfold tilePts
    iintro H; iexists f; iexact H
  exact (Entails.of_eq e).trans (bigSep_mono fun t _ => h t)
/-- The 32 places are the whole tile buffer. -/
theorem tiles_join (c : Dev nD) (f₀ : Buf (Elt F) ((c : Thread nD τ).loc cc0_scratch3)) :
    bigSep Finset.univ (fun t : Fin 32 => iprop(∃ f, tilePts c t f)) ⊢ (iprop(∃ f, has c cc0_scratch3 f) : sProp 𝕄) :=
  Ring.pointsTo_blocks_join_exists (Ix := Unit) (Name := ℕ) (U := UU) (Lvl := ℕ) (Val := Elt F) (ℓ := (c : Thread nD τ).loc cc0_scratch3)
    tilesSet tiles_disjoint tiles_cover (q := fullShare) f₀

/-! ## The weight buffer, and the right to read `w` -/

theorem slot_rect_set (s : Fin 2) : (slotM s).view.set = (slotRect s).set := (View.set_reshape _ _).trans (View.set_slice_whole _ _)
theorem slots_disjoint (s s' : Fin 2) (h : s ≠ s') : Disjoint (slotM s).view.set (slotM s').view.set := by
  rw [slot_rect_set, slot_rect_set]
  exact Ring.lead_disjoint (s := S2x8192x512) 0 1 (fun t : Fin 2 => ![t.val, 0, 0]) S1x8192x512.size slot_inb (fun t => (Nat.one_mul _).symm) rfl s s' h
abbrev slotsSet (s : Fin 2) : Finset S2x8192x512.Idx := (slotM s).view.set
theorem slots_cover : Finset.univ.biUnion slotsSet = Finset.univ := by
  rw [show slotsSet = fun s => (slotRect s).set from funext slot_rect_set]
  exact Ring.lead_cover (s := S2x8192x512) 0 1 (fun t : Fin 2 => ![t.val, 0, 0]) S1x8192x512.size slot_inb (fun t => (Nat.one_mul _).symm)
    (fun q a ha => by fin_cases a <;> first | exact absurd rfl ha | rfl) rfl
    (fun a ha => by fin_cases a <;> first | exact absurd rfl ha | rfl) rfl

/-- The whole weight buffer is two slots. -/
theorem slots_split (c : Dev nD) (f : Buf (Elt F) ((c : Thread nD τ).loc cc0_scratch1)) :
    (has c cc0_scratch1 f : sProp 𝕄) ⊢ iprop((∃ f, slotPts c 0 f) ∗ ∃ f, slotPts c 1 f) := by
  have e := Ring.pointsTo_blocks (Ix := Unit) (Name := ℕ) (U := UU) (Lvl := ℕ) (Val := Elt F) (ℓ := (c : Thread nD τ).loc cc0_scratch1)
    slotsSet slots_disjoint slots_cover (q := fullShare) f
  have h : ∀ s : Fin 2, (((slotM s).view.loc (c : Thread nD τ) ↦[(slotM s).view.set]{fullShare} f) : sProp 𝕄) ⊢ iprop(∃ f, slotPts c s f) := fun s => by
    unfold slotPts
    iintro H; iexists f; iexact H
  exact ((Entails.of_eq e).trans (bigSep_mono fun s _ => h s)).trans (Entails.of_eq (bigSep_fin_two fun s : Fin 2 => (iprop(∃ f, slotPts c s f) : sProp 𝕄)))
/-- The two slots are the whole weight buffer. -/
theorem slots_join (c : Dev nD) (f₀ : Buf (Elt F) ((c : Thread nD τ).loc cc0_scratch1)) :
    iprop((∃ f, slotPts c 0 f) ∗ ∃ f, slotPts c 1 f) ⊢ (iprop(∃ f, has c cc0_scratch1 f) : sProp 𝕄) := by
  have h := Ring.pointsTo_blocks_join_exists (Ix := Unit) (Name := ℕ) (U := UU) (Lvl := ℕ) (Val := Elt F) (ℓ := (c : Thread nD τ).loc cc0_scratch1)
    slotsSet slots_disjoint slots_cover (q := fullShare) f₀
  exact (Entails.of_eq (bigSep_fin_two fun s : Fin 2 => (iprop(∃ f, slotPts c s f) : sProp 𝕄)).symm).trans h

/-- Reading `w` whole is two halves of it. -/
theorem w_split (c : Dev nD) : (has c main_arg1 (m ((c : Thread nD τ).loc main_arg1)) : sProp 𝕄) ⊣⊢ iprop(wHalf m c 0 ∗ wHalf m c 1) :=
  pointsTo_share (PosShare.mem_left_op_right fullShare)

end Cert.KernelIdealProof

end
-- ==== Proof.KernelIdeal.Exchange.lean ====
/-
# The steps between devices

One rule per step of the exchange: a signal, the barrier's wait, sending a tile, waiting for a tile that arrives and for
one that has left. The cells' records are shared by all devices.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The shared records -/

/-- Every cell follows the schedule, and has reached its first round. -/
def cellsKnown (K : Dev nD × Part → ℕ) : sProp 𝕄 :=
  iprop((bigSep Finset.univ fun ck : Dev nD × Part => cellInv ER (ringRd m) (K ck) (kcell ck))
    ∗ bigSep Finset.univ fun ck : Dev nD × Part => reached ER (kcell ck) 0)
/-- That, and the order of the cells. -/
def records (K : Dev nD × Part → ℕ) : sProp 𝕄 := iprop(cellsKnown m K ∗ order)

instance cellsKnown_persistent (K : Dev nD × Part → ℕ) : BI.Persistent (cellsKnown m K) := by unfold cellsKnown; infer_instance
instance records_persistent (K : Dev nD × Part → ℕ) : BI.Persistent (records m K) := by unfold records; infer_instance

variable (K : Dev nD × Part → ℕ)

theorem known_inv (ck : Dev nD × Part) : records m K ⊢ cellInv ER (ringRd m) (K ck) (kcell ck) := by
  unfold records cellsKnown
  iintro ⟨⟨HI, -⟩, -⟩
  have h : (bigSep Finset.univ fun ck : Dev nD × Part => (cellInv ER (ringRd m) (K ck) (kcell ck) : sProp 𝕄)) ⊢ cellInv ER (ringRd m) (K ck) (kcell ck) :=
    bigSep_elim (Finset.mem_univ ck)
  iapply h; iexact HI
theorem known_reached (ck : Dev nD × Part) : records m K ⊢ reached ER (kcell ck) 0 := by
  unfold records cellsKnown
  iintro ⟨⟨-, HR⟩, -⟩
  have h : (bigSep Finset.univ fun ck : Dev nD × Part => (reached ER (kcell ck) 0 : sProp 𝕄)) ⊢ reached ER (kcell ck) 0 :=
    bigSep_elim (Finset.mem_univ ck)
  iapply h; iexact HR
theorem known_inv_bar (c : Dev nD) : records m K ⊢ cellInv ER (ringRd m) (K (c, none)) (barCell c) := known_inv m K (c, none)
theorem known_inv_send (c : Dev nD) (t : Fin 32) : records m K ⊢ cellInv ER (ringRd m) (K (c, some (false, t))) (sendCell c t) := known_inv m K (c, some (false, t))
theorem known_inv_recv (c : Dev nD) (t : Fin 32) : records m K ⊢ cellInv ER (ringRd m) (K (c, some (true, t))) (recvCell c t) := known_inv m K (c, some (true, t))
theorem known_reached_bar (c : Dev nD) : records m K ⊢ reached ER (barCell c) 0 := known_reached m K (c, none)
theorem known_reached_send (c : Dev nD) (t : Fin 32) : records m K ⊢ reached ER (sendCell c t) 0 := known_reached m K (c, some (false, t))
theorem known_reached_recv (c : Dev nD) (t : Fin 32) : records m K ⊢ reached ER (recvCell c t) 0 := known_reached m K (c, some (true, t))

/-- Waiting for a copy, with the shared records at hand. -/
theorem copied_step_known (c : Dev nD) (i : Fin 8) (O : CellTallies nD τ sig Unit) (hO : Above 0 O) {k : KProg F} {Q : PUnit → sProp 𝕄} :
    iprop(records m K ∗ flying m c i ∗ owesAny c O)
      ⊢ iprop((iprop(loaded m c i ∗ owesAny c O) -∗ runs c k Q) -∗ runs c (pCopied c i k) Q) := by
  unfold records
  iintro ⟨⟨-, #HL⟩, Hfly, HO⟩ Hk
  iapply (copied_step m c i O hO) $$ [Hfly HO]
  · isplitr; · iexact HL
    isplitl [Hfly] <;> iassumption
  iexact Hk

/-! ## The handshake -/

/-- Signal `n`: hand over the rows kept for the device it goes to. -/
theorem signal_step (c : Dev nD) (n : Fin 32) (hn : n ≠ 0) (O : CellTallies nD τ sig Unit) {k : KProg F} {Q : PUnit → sProp 𝕄} :
    iprop(records m K ∗ (dutyTok ER (barCell (sigDev c n)) 0 c ∗ ∃ f, rowsPts c (sigDev c n) f)
        ∗ owesAny c (O + tallyAt (barCell (sigDev c n)) () 1))
      ⊢ iprop((iprop(emp ∗ owesAny c O) -∗ runs c k Q) -∗ runs c (pSignal c n k) Q) := by
  have hne : c ≠ sigDev c n := fun h => hn (by rw [← sigNo_sigDev c n, ← h]; exact sigNo_sigDev c 0)
  unfold pSignal owesAny
  iintro ⟨#HR, ⟨Htok, Hrow⟩, ⟨%W, HO⟩⟩ Hk
  iapply (Rounds.wp_signal 𝒱₀ ER (ringRd m) (c : Thread nD τ) none (dst := (sigDev c n : Thread nD τ)) (κ := K (sigDev c n, none))
      (d := c) (r := 0) (by rw [duties_bar]; exact Finset.mem_erase.mpr ⟨hne, Finset.mem_univ _⟩) ((amount_bar m (sigDev c n) c).trans (by decide)) () O rfl)
    $$ [HO Htok Hrow]
  · isplitr; · iapply (known_inv_bar m K (sigDev c n)); iexact HR
    isplitl [HO]; · iexact HO
    isplitl [Htok]; · iexact Htok
    isplitl [Hrow]; · rw [payload_bar]; iexact Hrow
    iapply (known_reached_bar m K (sigDev c n)); iexact HR
  iintro HO
  iapply Hk
  isplitr; · iempintro
  iexists W; iexact HO

/-- The barrier: every other device's rows kept for this one. -/
theorem barrier_step (c : Dev nD) (O : CellTallies nD τ sig Unit) (hO : Above 1 O) {k : KProg F} {Q : PUnit → sProp 𝕄} :
    iprop(records m K ∗ atPos ER (barCell c) 0 ∅ 0 ∗ cred (tallyAt (barCell c) () 31) ∗ owesAny c O)
      ⊢ iprop((iprop((bigSep (Finset.univ.erase c) fun d : Dev nD => iprop(∃ f, rowsPts d c f)) ∗ atPos ER (barCell c) 1 ∅ 0 ∗ owesAny c O) -∗ runs c k Q)
          -∗ runs c (pBarrier k) Q) := by
  have hmay : records m K ⊢ MayWait (c : Thread nD τ) (.reg barSem) () O := by
    unfold records order; iintro ⟨-, H⟩
    iapply (mayWait_above c (SemLoc.reg barSem) 1 O (le_of_eq (lv_bar c ())) hO); iexact H
  unfold pBarrier owesAny
  iintro ⟨#HR, Hat, Hc, ⟨%W, HO⟩⟩ Hk
  iapply (Rounds.wp_wait_rest_token 𝒱₀ ER (ringRd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (known_inv_bar m K c); iexact HR
    isplitl [Hc]; · iexact Hc
    isplitl [HO]; · iexact HO
    isplitr
    · iapply hmay; iexact HR
    iexact Hat
  iintro ⟨HO, Hat, -, Hpay⟩
  ihave Hp := (Entails.of_eq (rest_bar m c)) $$ Hpay
  iapply Hk
  isplitl [Hp]; · iexact Hp
  isplitl [Hat]; · iexact Hat
  iexists _; iexact HO

/-! ## Tiles -/

theorem tile_set (t : Fin 32) : (tileM t).view.set = (tlM.access (tileRect t)).set := View.set_reshape _ _

/-- Written through one shape of a view and read through another, a value comes back. -/
theorem read_reshape_write {sp : Space} {s s' : Shape} {e : EltTy} (v : View sig .tc sp s e) (h : s'.numel = s.numel) (h' : s.numel = s'.numel)
    (f : v.ty.Contents (Elt F)) (w : s'.Idx → Elt F e) :
    (v.reshape s' h).read (Elt F) (v.write (Elt F) f (fun x => w (Shape.reshapeEquiv h' x)) Finset.univ) = w := by
  funext x
  show v.read (Elt F) (v.write (Elt F) f (fun x => w (Shape.reshapeEquiv h' x)) Finset.univ) (Shape.reshapeEquiv h x) = w x
  rw [View.read_write_univ, Shape.reshapeEquiv_reshapeEquiv, Shape.reshapeEquiv_self]

/-- A tile stored in its place reads as the tile. -/
theorem tile_read (t : Fin 32) (f : (cc0_scratch3 : Ref sig .tc).ty.Contents (Elt F)) (v : Vec F S256x128 .bf16) :
    (tileM t).view.read (Elt F) ((tlM.access (tileRect t)).write (Elt F) f (k0_pay4 v) Finset.univ) = v := by
  unfold k0_pay4 shapeCast
  exact read_reshape_write (s' := S256x128) (tlM.view.slice (tileRect t)) squeezes_S1x256x128_S256x128.numel_eq _ f v

/-- The place of a tile, whatever it holds, is what its send cell passes on. -/
theorem sent_pays (c : Dev nD) (t : Fin 32) (f : Buf (Elt F) ((tileM t).view.loc (c : Thread nD τ))) :
    ((tileM t).view.loc (c : Thread nD τ) ↦[(tileM t).view.set]{fullShare} f : sProp 𝕄) ⊢ (ringRd m).payload (sendCell c t) 0 0 := by
  rw [payload_send]; unfold tilePts
  iintro H; iexists f; iexact H
/-- The rows on the receiver, with the tile copied in, are what its receive cell passes on. -/
theorem landed_pays (c : Dev nD) (t : Fin 32) (f : (cc0_scratch3 : Ref sig .tc).ty.Contents (Elt F)) (fd : Buf (Elt F) ((rowsM c).view.loc (sendDev c t : Thread nD τ))) :
    ((rowsM c).view.loc (sendDev c t : Thread nD τ) ↦[(rowsM c).view.set]{fullShare}
        (rowsM c).view.write (Elt F) fd ((tileM t).view.read (Elt F)
          ((tlM.access (tileRect t)).write (Elt F) f (k0_pay4 (tileAt m c t)) Finset.univ)) Finset.univ : sProp 𝕄)
      ⊢ (ringRd m).payload (recvCell (sendDev c t) t) 0 0 := by
  rw [payload_recv, srcDev_sendDev, tile_read]; unfold rowsHold rowsPts
  iintro H; iexists _; isplitr; swap; · iexact H
  ipureintro
  exact View.read_write_univ _ _

/-- Sending tile `t`: its place and the receiver's rows go with it. -/
theorem send_step (c : Dev nD) (t : Fin 32) (ht : t ≠ 0) (O : CellTallies nD τ sig Unit) {k : KProg F} {Q : PUnit → sProp 𝕄} :
    iprop(records m K ∗ (has c cc0_scratch2 (prodAt m c (chunkOf t)) ∗ (∃ f, tilePts c t f) ∗ (∃ f, rowsPts (sendDev c t) c f)
          ∗ dutyTok ER (sendCell c t) 0 0 ∗ dutyTok ER (recvCell (sendDev c t) t) 0 0)
        ∗ owesAny c (O + oweT1 c t))
      ⊢ iprop((iprop((has c cc0_scratch2 (prodAt m c (chunkOf t)) ∗ cred (tallyAt (sendCell c t) () N)) ∗ owesAny c O) -∗ runs c k Q) -∗ runs c (pSend c t k) Q) := by
  have hO : oweT1 c t = tallyAt (recvCell (sendDev c t) t) () N := by unfold oweT1; exact if_neg ht
  rw [hO]
  unfold pSend owesAny tilePts rowsPts
  iintro ⟨#HR, ⟨Hm, ⟨%f, Ht⟩, ⟨%fd, Hr⟩, HtS, HtR⟩, ⟨%W, HO⟩⟩ Hk
  iapply (wp_load 𝒱₀ (c : Thread nD τ) none Set.univ (m := mbM) (Finset.subset_univ _)) $$ Hm; iintro Hm
  iapply (wp_load_rect 𝒱₀ (c : Thread nD τ) none Set.univ (m := tlM) (r := tileRect t) (tile_set t).ge) $$ Ht; iintro Ht
  iapply (wp_store 𝒱₀ (c : Thread nD τ) none Set.univ (m := tlM) (r := tileRect t) (Mk := Finset.univ) (tile_set t).ge) $$ Ht; iintro Ht
  iapply (Rounds.wp_send_pointsTo 𝒱₀ ER (ringRd m) (c : Thread nD τ) none (c' := (sendDev c t : Thread nD τ)) (src := tileM t) (dst := rowsM c)
    (κ₁ := K (c, some (false, t))) (κ₂ := K (sendDev c t, some (true, t)))
    (r₁ := 0) (r₂ := 0) (d₁ := 0) (d₂ := 0) (q := fullShare) (fd := fd)
    (by rw [duties_send m c t ht]; exact Finset.mem_singleton_self _)
    (by rw [duties_recv m (sendDev c t) t ht]; exact Finset.mem_singleton_self _)
    () () N rfl (amount_send m c t 0) (amount_recv m (sendDev c t) t 0) O rfl (W := W)
    (sent_pays m c t _) (landed_pays m c t f fd)) $$ [Ht Hr HO HtS HtR]
  · isplitr; · iapply (known_inv_send m K c t); iexact HR
    isplitr; · iapply (known_inv_recv m K (sendDev c t) t); iexact HR
    isplitl [Ht]; · iexact Ht
    isplitl [Hr]; · iexact Hr
    isplitl [HO]; · iexact HO
    isplitl [HtS]; · iexact HtS
    isplitr; · iapply (known_reached_send m K c t); iexact HR
    isplitl [HtR]; · iexact HtR
    iapply (known_reached_recv m K (sendDev c t) t); iexact HR
  iintro ⟨Hc, HO⟩
  iapply Hk
  isplitr [HO]
  · isplitl [Hm]; · iexact Hm
    iexact Hc
  iexists W; iexact HO

/-- Waiting for the tile that lands on receive cell `t`: the rows with the tile in them. -/
theorem recv_step (c : Dev nD) (t : Fin 32) (ht : t ≠ 0) {k : KProg F} {Q : PUnit → sProp 𝕄} :
    iprop(records m K ∗ (atPos ER (recvCell c t) 0 ∅ 0 ∗ cred (tallyAt (recvCell c t) () N)) ∗ owesAny c 0)
      ⊢ iprop((iprop((atPos ER (recvCell c t) 1 ∅ 0 ∗ rowsHold c (srcDev c t) (tileAt m (srcDev c t) t)) ∗ owesAny c 0) -∗ runs c k Q)
          -∗ runs c (pRecv c t k) Q) := by
  unfold pRecv owesAny
  iintro ⟨#HR, ⟨Hat, Hc⟩, ⟨%W, HO⟩⟩ Hk
  iapply (Rounds.wp_wait_rest_token 𝒱₀ ER (ringRd m) (c : Thread nD τ) none (κ := K (c, some (true, t)))
      (wpE_waitDma2_eq 𝒱₀ (c : Thread nD τ) none Set.univ) (Set.mem_univ _) () (O := 0) (W := W) (R := 0) (m := 0) (T := ∅)
      (by rw [Nat.zero_add, expect_recv m c t ht])) $$ [Hc HO Hat]
  · isplitr; · iapply (known_inv_recv m K c t); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c t ht)) $$ Hpay
  iapply Hk
  isplitr [HO]
  · isplitl [Hat]; · iexact Hat
    iexact Hp
  iexists _; iexact HO

/-- Waiting until tile `t` has left: its place back. -/
theorem sent_step (c : Dev nD) (t : Fin 32) (ht : t ≠ 0) {k : KProg F} {Q : PUnit → sProp 𝕄} :
    iprop(records m K ∗ (atPos ER (sendCell c t) 0 ∅ 0 ∗ cred (tallyAt (sendCell c t) () N)) ∗ owesAny c 0)
      ⊢ iprop((iprop((atPos ER (sendCell c t) 1 ∅ 0 ∗ ∃ f, tilePts c t f) ∗ owesAny c 0) -∗ runs c k Q) -∗ runs c (pSent c t k) Q) := by
  unfold pSent owesAny
  iintro ⟨#HR, ⟨Hat, Hc⟩, ⟨%W, HO⟩⟩ Hk
  iapply (Rounds.wp_wait_rest_token 𝒱₀ ER (ringRd m) (c : Thread nD τ) none (κ := K (c, some (false, t)))
      (wpE_waitDma2_eq 𝒱₀ (c : Thread nD τ) none Set.univ) (Set.mem_univ _) () (O := 0) (W := W) (R := 0) (m := 0) (T := ∅)
      (by rw [Nat.zero_add, expect_send m c t ht])) $$ [Hc HO Hat]
  · isplitr; · iapply (known_inv_send m K c t); iexact HR
    isplitl [Hc]; · iexact Hc
    isplitl [HO]; · iexact HO
    isplitr; · rw [MayWait_zero]; iempintro
    iexact Hat
  iintro ⟨HO, Hat, -, Hpay⟩
  ihave Hp := (Entails.of_eq (rest_send m c t ht)) $$ Hpay
  iapply Hk
  isplitr [HO]
  · isplitl [Hat]; · iexact Hat
    iexact Hp
  iexists _; iexact HO

end Cert.KernelIdealProof

end
-- ==== Proof.KernelIdeal.Walk.lean ====
/-
# The whole body on one device

The rules for the steps, put together: a tile, the four tiles of a chunk, the eight chunks with the copies that run ahead, the
signals, the landings and the departures; then the whole body, from what a device has at the start to what it has at the end.
-/
module

public import proofs.«01_k».proof.Proof.KernelIdeal.Exchange
public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ)

/-! ## Tiles -/

/-- What sending tile `t` takes. -/
def sendNeeds (c : Dev nD) (t : Fin 32) : sProp 𝕄 :=
  iprop((∃ f, tilePts c t f) ∗ (∃ f, rowsPts (sendDev c t) c f) ∗ dutyTok ER (sendCell c t) 0 0 ∗ dutyTok ER (recvCell (sendDev c t) t) 0 0)
/-- What tile `t` takes: for tile 0, the device's own rows. -/
def tilePre (c : Dev nD) (t : Fin 32) : sProp 𝕄 := if t = 0 then iprop(∃ f, rowsPts c c f) else sendNeeds c t
/-- What tile `t` leaves: for tile 0, the own rows holding it; for another, the right to wait until it has left. -/
def tilePost (c : Dev nD) (t : Fin 32) : sProp 𝕄 := if t = 0 then rowsHold c c (tileAt m c 0) else cred (tallyAt (sendCell c t) () N)

theorem chunk_of_zero : chunkOf 0 = 0 := by decide

/-- One tile. -/
theorem tile_step (c : Dev nD) (t : Fin 32) (i : Fin 8) (hi : chunkOf t = i) (O : CellTallies nD τ sig Unit) {k : KProg F} {Q : PUnit → sProp 𝕄} :
    iprop(records m K ∗ tilePre c t ∗ (has c cc0_scratch2 (prodAt m c i) ∗ owesAny c (O + oweT1 c t)))
      ⊢ iprop((iprop(tilePost m c t ∗ (has c cc0_scratch2 (prodAt m c i) ∗ owesAny c O)) -∗ runs c k Q) -∗ runs c (pTile c t k) Q) := by
  subst hi
  by_cases ht : t = 0
  · subst ht
    have hO : O + oweT1 c 0 = O := by unfold oweT1; rw [if_pos rfl, add_zero]
    rw [hO, chunk_of_zero]
    unfold tilePre tilePost pTile
    rw [if_pos rfl, if_pos rfl, if_pos rfl]
    iintro ⟨-, Hrow, Hm, HO⟩ Hk
    iapply (keep_step m c) $$ [Hrow Hm]
    · isplitl [Hm] <;> iassumption
    iintro ⟨Hm, Hrow⟩
    iapply Hk
    isplitl [Hrow]; · iexact Hrow
    isplitl [Hm] <;> iassumption
  · unfold tilePre tilePost pTile sendNeeds
    rw [if_neg ht, if_neg ht, if_neg ht]
    iintro ⟨#HR, ⟨Ht, Hrow, HtS, HtR⟩, Hm, HO⟩ Hk
    iapply (send_step m K c t ht O) $$ [Hm Ht Hrow HtS HtR HO]
    · isplitr; · iexact HR
      isplitr [HO]
      · isplitl [Hm]; · iexact Hm
        isplitl [Ht]; · iexact Ht
        isplitl [Hrow]; · iexact Hrow
        isplitl [HtS] <;> iassumption
      iexact HO
    iintro ⟨⟨Hm, Hc⟩, HO⟩
    iapply Hk
    isplitl [Hc]; · iexact Hc
    isplitl [Hm] <;> iassumption

theorem chunk_of_tiles : ∀ i : Fin 8, ∀ t ∈ tilesOf i, chunkOf t = i := by decide

/-- The tiles of a chunk. -/
theorem tiles_step (c : Dev nD) (i : Fin 8) (l' : List (Fin 32)) {k : KProg F} {Q : PUnit → sProp 𝕄} :
    iprop(records m K ∗ bigSepL (tilesOf i) (tilePre c) ∗ (has c cc0_scratch2 (prodAt m c i) ∗ owesAny c (oweT c (tilesOf i ++ l'))))
      ⊢ iprop((iprop(bigSepL (tilesOf i) (tilePost m c) ∗ (has c cc0_scratch2 (prodAt m c i) ∗ owesAny c (oweT c l'))) -∗ runs c k Q)
          -∗ runs c (steps (pTile c) (tilesOf i) k) Q) :=
  runs_steps c (records m K) (pTile c) (fun l => ∀ t ∈ l, chunkOf t = i) (fun t l h x hx => h x (List.mem_cons_of_mem _ hx)) (tilePre c) (tilePost m c)
    (fun l => iprop(has c cc0_scratch2 (prodAt m c i) ∗ owesAny c (oweT c (l ++ l'))))
    (fun t l k h => tile_step m K c t i (h t List.mem_cons_self) (oweT c (l ++ l'))) (tilesOf i) (chunk_of_tiles i) k

/-! ## Chunks -/

/-- The numbers of the chunks, one up from each other and ending with 7. -/
def inOrder : List (Fin 8) → Prop
  | [] => True
  | [i] => i = 7
  | i :: j :: l => i ≠ 7 ∧ j = i + 1 ∧ inOrder (j :: l)

theorem inOrder_tail : ∀ (i : Fin 8) (l : List (Fin 8)), inOrder (i :: l) → inOrder l
  | _, [], _ => trivial
  | _, _ :: _, h => h.2.2

theorem chunks_inOrder : inOrder chunks := by
  refine ⟨?_, ?_, ?_, ?_, ?_, ?_, ?_, ?_, ?_, ?_, ?_, ?_, ?_, ?_, ?_⟩ <;> first | rfl | decide

/-- The other slot. -/
def other (s : Fin 2) : Fin 2 := s + 1

theorem next_eq (d : Dev nD) (k : KProg F) : ∀ i : Fin 8, i ≠ 7 → pNext d i k = pCopy d (i + 1) k := by
  intro i hi
  fin_cases i <;> first | exact absurd rfl hi | rfl
theorem slot_next : ∀ i : Fin 8, i ≠ 7 → slotOf (i + 1) = other (slotOf i) ∧ slotOf i = other (slotOf (i + 1)) := by decide

/-- The weight buffer, with the chunks of a list still to come: the first of them is on its way. -/
def coming (c : Dev nD) : List (Fin 8) → sProp 𝕄
  | [] => iprop(idle m c 0 ∗ idle m c 1)
  | i :: _ => iprop(flying m c i ∗ idle m c (other (slotOf i)))

/-- The slot that chunk `i` does not use, after the next chunk has been started. -/
def ahead (c : Dev nD) (i : Fin 8) : List (Fin 8) → sProp 𝕄
  | [] => idle m c 0
  | j :: _ => flying m c j

theorem slot_last : slotOf 7 = 1 := by decide
theorem other_last : other 1 = 0 := by decide

/-- Starting the next chunk's copy, if there is one. -/
theorem next_step (c : Dev nD) (i : Fin 8) (l : List (Fin 8)) (h : inOrder (i :: l)) {k : KProg F} {Q : PUnit → sProp 𝕄} :
    idle m c (other (slotOf i)) ⊢ iprop((ahead m c i l -∗ runs c k Q) -∗ runs c (pNext c i k) Q) := by
  cases l with
  | nil =>
    have hi : i = 7 := h
    subst hi
    rw [slot_last, other_last, show pNext c 7 k = k from rfl]
    unfold ahead
    iintro H Hk
    iapply Hk; iexact H
  | cons j l =>
    obtain ⟨h7, hj, -⟩ := h
    subst hj
    rw [next_eq c k i h7, ← (slot_next i h7).1]
    exact copy_step m c (i + 1)

/-- With this chunk's slot given back, the weight buffer is as the rest of the chunks want it. -/
theorem ahead_coming (c : Dev nD) (i : Fin 8) (l : List (Fin 8)) (h : inOrder (i :: l)) :
    iprop(ahead m c i l ∗ idle m c (slotOf i)) ⊢ coming m c l := by
  cases l with
  | nil =>
    have hi : i = 7 := h
    subst hi
    rw [slot_last]
    exact .rfl
  | cons j l =>
    obtain ⟨h7, hj, -⟩ := h
    subst hj
    show iprop(flying m c (i + 1) ∗ idle m c (slotOf i)) ⊢ iprop(flying m c (i + 1) ∗ idle m c (other (slotOf (i + 1))))
    rw [← (slot_next i h7).2]

/-- What the chunks of a list pass along. -/
def chunkState (c : Dev nD) (l : List (Fin 8)) : sProp 𝕄 :=
  iprop(coming m c l ∗ has c cc0_scratch0 (k0_pay1 (xAt m c)) ∗ (∃ g, has c cc0_scratch2 g) ∗ owesAny c (oweT c (l.flatMap tilesOf)))

/-- One chunk. -/
theorem chunk_step (c : Dev nD) (i : Fin 8) (l : List (Fin 8)) (k : KProg F) (h : inOrder (i :: l)) {Q : PUnit → sProp 𝕄} :
    iprop(records m K ∗ bigSepL (tilesOf i) (tilePre c) ∗ chunkState m c (i :: l))
      ⊢ iprop((iprop(bigSepL (tilesOf i) (tilePost m c) ∗ chunkState m c l) -∗ runs c k Q) -∗ runs c (pChunk c i k) Q) := by
  unfold chunkState pChunk
  rw [List.flatMap_cons]
  have hO : Above 0 (oweT c (tilesOf i ++ l.flatMap tilesOf)) := fun g u hp =>
    ⟨(above_oweT c _ g u hp).1, lt_trans Nat.zero_lt_one (above_oweT c _ g u hp).2⟩
  show iprop(records m K ∗ bigSepL (tilesOf i) (tilePre c) ∗ ((flying m c i ∗ idle m c (other (slotOf i))) ∗ has c cc0_scratch0 (k0_pay1 (xAt m c))
    ∗ (∃ g, has c cc0_scratch2 g) ∗ owesAny c (oweT c (tilesOf i ++ l.flatMap tilesOf)))) ⊢ _
  iintro ⟨#HR, Hpre, ⟨⟨Hfly, Hidle⟩, Hb, Hm, HO⟩⟩ Hk
  iapply (next_step m c i l h) $$ Hidle
  iintro Hahead
  iapply (copied_step_known m K c i (oweT c (tilesOf i ++ l.flatMap tilesOf)) hO) $$ [Hfly HO]
  · isplitr; · iexact HR
    isplitl [Hfly] <;> iassumption
  iintro ⟨Hload, HO⟩
  iapply (mul_step m c i) $$ [Hb Hload Hm]
  · isplitl [Hb]; · iexact Hb
    isplitl [Hload] <;> iassumption
  iintro ⟨Hb, Hidle, Hm⟩
  iapply (tiles_step m K c i (l.flatMap tilesOf)) $$ [Hpre Hm HO]
  · isplitr; · iexact HR
    isplitl [Hpre]; · iexact Hpre
    isplitl [Hm] <;> iassumption
  iintro ⟨Hpost, Hm, HO⟩
  iapply Hk
  isplitl [Hpost]; · iexact Hpost
  isplitl [Hahead Hidle]
  · iapply (ahead_coming m c i l h); isplitl [Hahead] <;> iassumption
  isplitl [Hb]; · iexact Hb
  isplitl [Hm]; · iexists _; iexact Hm
  iexact HO

/-- All chunks. -/
theorem chunks_step (c : Dev nD) {k : KProg F} {Q : PUnit → sProp 𝕄} :
    iprop(records m K ∗ bigSepL ((0 : Fin 32) :: others) (tilePre c) ∗ chunkState m c chunks)
      ⊢ iprop((iprop(bigSepL ((0 : Fin 32) :: others) (tilePost m c) ∗ chunkState m c []) -∗ runs c k Q) -∗ runs c (steps (pChunk c) chunks k) Q) := by
  have h := runs_steps c (records m K) (pChunk c) inOrder inOrder_tail (fun i => bigSepL (tilesOf i) (tilePre c)) (fun i => bigSepL (tilesOf i) (tilePost m c))
    (chunkState m c) (Q := Q) (fun i l k h => chunk_step m K c i l k h) chunks chunks_inOrder k
  rw [listed_flat, listed_flat, chunks_tiles] at h
  exact h

/-! ## Signals, landings, departures -/

def noZero (l : List (Fin 32)) : Prop := ∀ t ∈ l, t ≠ 0
theorem noZero_tail (t : Fin 32) (l : List (Fin 32)) (h : noZero (t :: l)) : noZero l := fun x hx => h x (List.mem_cons_of_mem _ hx)

/-- All signals. -/
theorem signals_step (c : Dev nD) {k : KProg F} {Q : PUnit → sProp 𝕄} :
    iprop(records m K ∗ bigSepL others (fun n => iprop(dutyTok ER (barCell (sigDev c n)) 0 c ∗ ∃ f, rowsPts c (sigDev c n) f)) ∗ owesAny c (O₀ c))
      ⊢ iprop((iprop(bigSepL others (fun _ => (iprop(emp) : sProp 𝕄)) ∗ owesAny c (oweT c (chunks.flatMap tilesOf))) -∗ runs c k Q)
          -∗ runs c (steps (pSignal c) others k) Q) :=
  runs_steps c (records m K) (pSignal c) noZero noZero_tail _ _ (fun l => owesAny c (oweSig c l))
    (fun n l k h => signal_step m K c n (h n List.mem_cons_self) (oweSig c l)) others others_ne_zero k

/-- All landings. -/
theorem recvs_step (c : Dev nD) {k : KProg F} {Q : PUnit → sProp 𝕄} :
    iprop(records m K ∗ bigSepL others (fun t => iprop(atPos ER (recvCell c t) 0 ∅ 0 ∗ cred (tallyAt (recvCell c t) () N))) ∗ owesAny c 0)
      ⊢ iprop((iprop(bigSepL others (fun t => iprop(atPos ER (recvCell c t) 1 ∅ 0 ∗ rowsHold c (srcDev c t) (tileAt m (srcDev c t) t))) ∗ owesAny c 0) -∗ runs c k Q)
          -∗ runs c (steps (pRecv c) others k) Q) :=
  runs_steps c (records m K) (pRecv c) noZero noZero_tail _ _ (fun _ => owesAny c 0)
    (fun t l k h => recv_step m K c t (h t List.mem_cons_self)) others others_ne_zero k

/-- All departures. -/
theorem sents_step (c : Dev nD) {k : KProg F} {Q : PUnit → sProp 𝕄} :
    iprop(records m K ∗ bigSepL others (fun t => iprop(atPos ER (sendCell c t) 0 ∅ 0 ∗ cred (tallyAt (sendCell c t) () N))) ∗ owesAny c 0)
      ⊢ iprop((iprop(bigSepL others (fun t => iprop(atPos ER (sendCell c t) 1 ∅ 0 ∗ ∃ f, tilePts c t f)) ∗ owesAny c 0) -∗ runs c k Q)
          -∗ runs c (steps (pSent c) others k) Q) :=
  runs_steps c (records m K) (pSent c) noZero noZero_tail _ _ (fun _ => owesAny c 0)
    (fun t l k h => sent_step m K c t (h t List.mem_cons_self)) others others_ne_zero k

end Cert.KernelIdealProof

end
-- ==== Proof.KernelIdeal.Whole.lean ====
/-
# The body, from start to end

What one device has when its body starts, what it has when the body has run, and that the body leads from the one to the other:
the result buffer then holds the 32 tiles that came in, one from each device, stacked.
-/
module

public import proofs.«01_k».proof.Proof.KernelIdeal.Walk

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ)

/-! ## What goes in and comes out -/

/-- The 32 tiles that device `c` collects, stacked. -/
def gathered (c : Dev nD) : Vec F S8192x128 .bf16 := stacked fun q => tileAt m q (tileNo q c)
/-- Device `c`'s result. -/
def outAt (c : Dev nD) : Vec F S8192x128 .f32 := k0_pay43 (gathered m c)

/-- The duties that device `c` discharges. -/
def tokens (c : Dev nD) : sProp 𝕄 :=
  iprop(bigSepL others (fun n => dutyTok ER (barCell (sigDev c n)) 0 c)
    ∗ bigSepL others (fun t => dutyTok ER (sendCell c t) 0 0) ∗ bigSepL others (fun t => dutyTok ER (recvCell (sendDev c t) t) 0 0))
/-- Device `c`'s places at its cells, all at round `r`. -/
def places (c : Dev nD) (r : ℕ) : sProp 𝕄 :=
  iprop(atPos ER (barCell c) r ∅ 0 ∗ bigSepL others (fun t => atPos ER (sendCell c t) r ∅ 0) ∗ bigSepL others (fun t => atPos ER (recvCell c t) r ∅ 0))
/-- What device `c` may wait for. -/
def credits (c : Dev nD) : sProp 𝕄 :=
  iprop(cred (tallyAt (barCell c) () 31) ∗ bigSepL others (fun t => cred (tallyAt (recvCell c t) () N)))
/-- The copies' semaphores, at rest. -/
def copySems (c : Dev nD) : sProp 𝕄 :=
  iprop(semVal ((c : Thread nD τ), .dma (copySem 0)) 0 ∗ semVal ((c : Thread nD τ), .dma (copySem 1)) 0)
/-- The scratch buffers, holding whatever. -/
def scratch (c : Dev nD) : sProp 𝕄 :=
  iprop((∃ f, has c cc0_scratch0 f) ∗ (∃ f, has c cc0_scratch1 f) ∗ (∃ f, has c cc0_scratch2 f) ∗ (∃ f, has c cc0_scratch3 f) ∗ (∃ f, has c cc0_scratch4 f))

/-- Everything but the result and the exchange. -/
def common (c : Dev nD) : sProp 𝕄 :=
  iprop(copySems c ∗ has c main_arg1 (m ((c : Thread nD τ).loc main_arg1)) ∗ has c cc0_stg0_0 (xAt m c : Vec F S256x8192 .f32) ∗ scratch c)

/-- At the start. -/
def before (c : Dev nD) : sProp 𝕄 :=
  iprop(records m K ∗ tokens c ∗ places c 0 ∗ credits c ∗ common m c ∗ (∃ f, has c cc0_stg1_0 f) ∗ owesAny c (O₀ c))
/-- At the end. -/
def afterAll (c : Dev nD) : sProp 𝕄 :=
  iprop(places c 1 ∗ common m c ∗ has c cc0_stg1_0 (outAt m c : Vec F S8192x128 .f32) ∗ owesAny c 0)

/-! ## Regrouping -/

/-- The bands of the receive buffer: the device's own, and one for the device of each signal. -/
theorem own_rows (c : Dev nD) :
    (iprop(∃ f, has c cc0_scratch4 f) : sProp 𝕄) ⊢ iprop((∃ f, rowsPts c c f) ∗ bigSepL others (fun n => (iprop(∃ f, rowsPts c (sigDev c n) f) : sProp 𝕄))) := by
  have e := around_eq (F := F) c (sigEquiv c) (sigDev_zero c) (fun q : Dev nD => iprop(∃ f, rowsPts c q f))
  iintro ⟨%f, H⟩
  iapply ((rows_split c f).trans (Entails.of_eq e)); iexact H

/-- The rows that the barrier hands over, in the tiles' order. -/
theorem given_rows (c : Dev nD) :
    (bigSep (Finset.univ.erase c) fun d : Dev nD => (iprop(∃ f, rowsPts d c f) : sProp 𝕄))
      ⊢ bigSepL others (fun t => (iprop(∃ f, rowsPts (sendDev c t) c f) : sProp 𝕄)) :=
  Entails.of_eq (erase_eq (F := F) c (sendEquiv c) (sendDev_zero c) (fun d : Dev nD => iprop(∃ f, rowsPts d c f)))

/-- The places of the tile buffer: tile 0's, never used, and the others'. -/
theorem own_tiles (c : Dev nD) :
    (iprop(∃ f, has c cc0_scratch3 f) : sProp 𝕄)
      ⊢ iprop((∃ f, tilePts c 0 f) ∗ bigSepL others (fun t => (iprop(∃ f, tilePts c t f) : sProp 𝕄))) := by
  have e := numbers_eq (F := F) (fun t : Fin 32 => iprop(∃ f, tilePts c t f))
  iintro ⟨%f, H⟩
  iapply ((tiles_split c f).trans (Entails.of_eq e)); iexact H
theorem back_tiles (c : Dev nD) (f₀ : Buf (Elt F) ((c : Thread nD τ).loc cc0_scratch3)) :
    iprop((∃ f, tilePts c 0 f) ∗ bigSepL others (fun t => (iprop(∃ f, tilePts c t f) : sProp 𝕄)))
      ⊢ (iprop(∃ f, has c cc0_scratch3 f) : sProp 𝕄) :=
  (Entails.of_eq (numbers_eq (F := F) (fun t : Fin 32 => iprop(∃ f, tilePts c t f))).symm).trans
    (tiles_join c f₀)

/-- What the tiles need, from its parts. -/
theorem tiles_needs (c : Dev nD) :
    iprop((∃ f, rowsPts c c f) ∗ (bigSepL others (fun t => (iprop(∃ f, tilePts c t f) : sProp 𝕄)) ∗ bigSepL others (fun t => (iprop(∃ f, rowsPts (sendDev c t) c f) : sProp 𝕄))
        ∗ bigSepL others (fun t => (dutyTok ER (sendCell c t) 0 0 : sProp 𝕄)) ∗ bigSepL others (fun t => (dutyTok ER (recvCell (sendDev c t) t) 0 0 : sProp 𝕄))))
      ⊢ (bigSepL ((0 : Fin 32) :: others) (tilePre c) : sProp 𝕄) := by
  rw [bigSepL_cons' 0 others (tilePre c)]
  have h0 : (iprop(∃ f, rowsPts c c f) : sProp 𝕄) ⊢ tilePre c 0 := by unfold tilePre; rw [if_pos rfl]
  have h : bigSepL others (fun t => (sendNeeds c t : sProp 𝕄)) ⊢ bigSepL others (tilePre c) :=
    bigSepL_mono fun t ht => by unfold tilePre; rw [if_neg (others_ne_zero t ht)]
  iintro ⟨Hown, H1, H2, H3, H4⟩
  isplitl [Hown]; · iapply h0; iexact Hown
  iapply h
  unfold sendNeeds
  iapply (listed_sep others _ _).2
  isplitl [H1]; · iexact H1
  iapply (listed_sep others _ _).2
  isplitl [H2]; · iexact H2
  iapply (listed_sep others _ _).2
  isplitl [H3] <;> iassumption

/-- What the tiles leave, in its parts. -/
theorem tiles_leave (c : Dev nD) :
    (bigSepL ((0 : Fin 32) :: others) (tilePost m c) : sProp 𝕄)
      ⊢ iprop(rowsHold c c (tileAt m c 0) ∗ bigSepL others (fun t => (cred (tallyAt (sendCell c t) () N) : sProp 𝕄))) := by
  rw [bigSepL_cons' 0 others (tilePost m c)]
  have h0 : tilePost m c 0 ⊢ rowsHold c c (tileAt m c 0) := by unfold tilePost; rw [if_pos rfl]
  have h : bigSepL others (tilePost m c) ⊢ bigSepL others (fun t => (cred (tallyAt (sendCell c t) () N) : sProp 𝕄)) :=
    bigSepL_mono fun t ht => by unfold tilePost; rw [if_neg (others_ne_zero t ht)]
  iintro ⟨H0, Hl⟩
  isplitl [H0]; · iapply h0; iexact H0
  iapply h; iexact Hl

/-- The tile kept and the tiles received are the receive buffer, holding them stacked. -/
theorem all_rows (c : Dev nD) :
    iprop(rowsHold c c (tileAt m c 0) ∗ bigSepL others (fun t => (rowsHold c (srcDev c t) (tileAt m (srcDev c t) t) : sProp 𝕄)))
      ⊢ (has c cc0_scratch4 (gathered m c) : sProp 𝕄) := by
  have e := around_eq (F := F) c (srcEquiv c) (srcDev_zero c) (fun q : Dev nD => rowsHold c q (tileAt m q (tileNo q c)))
  have h0 : tileNo c c = 0 := by have := tileNo_srcDev c 0; rwa [srcDev_zero] at this
  rw [h0] at e
  have h : bigSepL others (fun t => (rowsHold c (srcDev c t) (tileAt m (srcDev c t) t) : sProp 𝕄))
      ⊢ bigSepL others (fun t => (rowsHold c (srcEquiv c t) (tileAt m (srcEquiv c t) (tileNo (srcEquiv c t) c)) : sProp 𝕄)) :=
    bigSepL_mono fun t _ => by
      show rowsHold c (srcDev c t) (tileAt m (srcDev c t) t) ⊢ rowsHold c (srcDev c t) (tileAt m (srcDev c t) (tileNo (srcDev c t) c))
      rw [tileNo_srcDev]
  have hj := rows_join c (fun q : Dev nD => tileAt m q (tileNo q c))
  iintro ⟨H0, Hl⟩
  iapply hj
  iapply (Entails.of_eq e.symm)
  isplitl [H0]; · iexact H0
  iapply h; iexact Hl

theorem idle_intro (c : Dev nD) (s : Fin 2) :
    iprop((∃ f, slotPts c s f) ∗ wHalf m c s ∗ semVal ((c : Thread nD τ), .dma (copySem s)) 0) ⊢ idle m c s := by unfold idle; exact .rfl
theorem coming_intro (c : Dev nD) : iprop(flying m c 0 ∗ idle m c 1) ⊢ coming m c chunks := .rfl

/-! ## The body -/

/-- The body leads from the start to the end. -/
theorem body_runs (c : Dev nD) {Q : PUnit → sProp 𝕄} : before m K c ⊢ iprop((afterAll m c -∗ runs c (.ret ⟨⟩) Q) -∗ runs c (bodyOn c) Q) := by
  unfold before common tokens places credits copySems scratch bodyOn
  iintro ⟨#HR, ⟨Htb, Hts, Htr⟩, ⟨Hpb, Hps, Hpr⟩, ⟨Hcb, Hcr⟩, ⟨⟨Hv0, Hv1⟩, Hw, Hx, Hs0, Hs1, Hs2, Hs3, Hs4⟩, Hout, HO⟩ Hk
  icases Hs0 with ⟨%g0, Hs0⟩
  icases Hs1 with ⟨%g1, Hs1⟩
  icases Hout with ⟨%go, Hout⟩
  ihave Hslots := (slots_split c g1) $$ Hs1
  icases Hslots with ⟨Hslot0, Hslot1⟩
  ihave Hw := (w_split m c).1 $$ Hw
  icases Hw with ⟨Hw0, Hw1⟩
  ihave Hrows := (own_rows c) $$ Hs4
  icases Hrows with ⟨Hown, Hrows⟩
  ihave Htiles := (own_tiles c) $$ Hs3
  icases Htiles with ⟨Htile0, Htiles⟩
  -- the first copy, and rounding
  iapply (copy_step m c 0) $$ [Hslot0 Hw0 Hv0]
  · iapply (idle_intro m c 0)
    isplitl [Hslot0]; · iexact Hslot0
    isplitl [Hw0] <;> iassumption
  iintro Hfly
  iapply (round_step c (xAt m c) g0) $$ [Hx Hs0]
  · isplitl [Hx] <;> iassumption
  iintro ⟨Hx, Hs0⟩
  -- the handshake
  iapply (signals_step m K c) $$ [Htb Hrows HO]
  · isplitr; · iexact HR
    isplitr [HO]
    · iapply (listed_sep others _ _).2
      isplitl [Htb] <;> iassumption
    iexact HO
  iintro ⟨-, HO⟩
  iapply (barrier_step m K c (oweT c (chunks.flatMap tilesOf)) (above_oweT c _)) $$ [Hpb Hcb HO]
  · isplitr; · iexact HR
    isplitl [Hpb]; · iexact Hpb
    isplitl [Hcb] <;> iassumption
  iintro ⟨Hgiven, Hpb, HO⟩
  ihave Hgiven := (given_rows c) $$ Hgiven
  -- the chunks
  iapply (chunks_step m K c) $$ [Hown Htiles Hgiven Hts Htr Hfly Hslot1 Hw1 Hv1 Hs0 Hs2 HO]
  · isplitr; · iexact HR
    isplitl [Hown Htiles Hgiven Hts Htr]
    · iapply (tiles_needs c)
      isplitl [Hown]; · iexact Hown
      isplitl [Htiles]; · iexact Htiles
      isplitl [Hgiven]; · iexact Hgiven
      isplitl [Hts] <;> iassumption
    unfold chunkState
    isplitl [Hfly Hslot1 Hw1 Hv1]
    · iapply (coming_intro m c)
      isplitl [Hfly]; · iexact Hfly
      iapply (idle_intro m c 1)
      isplitl [Hslot1]; · iexact Hslot1
      isplitl [Hw1] <;> iassumption
    isplitl [Hs0]; · iexact Hs0
    isplitl [Hs2] <;> iassumption
  iintro ⟨Hleft, Hst⟩
  ihave Hleft := (tiles_leave m c) $$ Hleft
  icases Hleft with ⟨Hown, Hcs⟩
  unfold chunkState
  icases Hst with ⟨Hidle, Hs0, Hs2, HO⟩
  ihave HO := (show owesAny c (oweT c (([] : List (Fin 8)).flatMap tilesOf)) ⊢ (owesAny c 0 : sProp 𝕄) from .rfl) $$ HO
  ihave Hidle := (show coming m c [] ⊢ iprop(idle m c 0 ∗ idle m c 1) from .rfl) $$ Hidle
  -- the landings
  iapply (recvs_step m K c) $$ [Hpr Hcr HO]
  · isplitr; · iexact HR
    isplitr [HO]
    · iapply (listed_sep others _ _).2
      isplitl [Hpr] <;> iassumption
    iexact HO
  iintro ⟨Hland, HO⟩
  ihave Hland := (listed_sep others _ _).1 $$ Hland
  icases Hland with ⟨Hpr, Hland⟩
  ihave Hs4 := (all_rows m c) $$ [Hown Hland]
  · isplitl [Hown] <;> iassumption
  iapply (out_step c (gathered m c) go) $$ [Hs4 Hout]
  · isplitl [Hs4] <;> iassumption
  iintro ⟨Hs4, Hout⟩
  -- the departures
  iapply (sents_step m K c) $$ [Hps Hcs HO]
  · isplitr; · iexact HR
    isplitr [HO]
    · iapply (listed_sep others _ _).2
      isplitl [Hps] <;> iassumption
    iexact HO
  iintro ⟨Hgone, HO⟩
  ihave Hgone := (listed_sep others _ _).1 $$ Hgone
  icases Hgone with ⟨Hps, Htiles⟩
  ihave Hs3 := (back_tiles c (m ((c : Thread nD τ).loc cc0_scratch3))) $$ [Htile0 Htiles]
  · isplitl [Htile0] <;> iassumption
  unfold idle
  icases Hidle with ⟨⟨Hslot0, Hw0, Hv0⟩, ⟨Hslot1, Hw1, Hv1⟩⟩
  ihave Hs1 := (slots_join c (m ((c : Thread nD τ).loc cc0_scratch1))) $$ [Hslot0 Hslot1]
  · isplitl [Hslot0] <;> iassumption
  ihave Hw := (w_split m c).2 $$ [Hw0 Hw1]
  · isplitl [Hw0] <;> iassumption
  iapply Hk
  unfold afterAll places common copySems scratch
  isplitl [Hpb Hps Hpr]
  · isplitl [Hpb]; · iexact Hpb
    isplitl [Hps] <;> iassumption
  isplitr [Hout HO]
  · isplitl [Hv0 Hv1]
    · isplitl [Hv0] <;> iassumption
    isplitl [Hw]; · iexact Hw
    isplitl [Hx]; · iexact Hx
    isplitl [Hs0]; · iexists _; iexact Hs0
    isplitl [Hs1]; · iexact Hs1
    isplitl [Hs2]; · iexact Hs2
    isplitl [Hs3]; · iexact Hs3
    iexists _; iexact Hs4
  isplitl [Hout]; · iexact Hout
  iexact HO

end Cert.KernelIdealProof

end
-- ==== Proof.KernelIdeal.Product.lean ====
/-
# What the exchanged tiles hold, over the extended reals

Over the extended reals a narrowing or widening of a float changes nothing and a product of two matrices is the exact
sum. The module reads every stage of the kernel at one index: a chunk of `w`, the product of a chunk, a tile cut out of
the product, and the result array with the tiles of all devices stacked.
-/
module

public import proofs.«01_k».proof.Proof.KernelIdeal.Parts
public import proofs.«01_k».proof.Proof.KernelIdeal.Whole
public import Idealize.ShloMosaic.Lib.Pointwise
public import Idealize.ShloMosaic.PureOps.Ideal.Laws
public import Idealize.ShloMosaic.Lib.Pipeline.Value
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-- Narrowing changes nothing. -/
theorem narrow_eq {s : Shape} {φ ψ : FTy} (a : FVec Ideal s φ) (h : ψ.bits < φ.bits) : (truncf ψ a h : FVec Ideal s ψ) = a := rfl

/-- Widening changes nothing. -/
theorem widen_eq {s : Shape} {φ ψ : FTy} (a : FVec Ideal s φ) (h : φ.bits < ψ.bits) : (extf ψ a h : FVec Ideal s ψ) = a := rfl

/-! ## One chunk's product -/

/-- The narrowed `x` is `x`. -/
theorem narrowed (x : Vec Ideal S256x8192 .f32) : k0_pay1 (F := Ideal) x = x := by
  unfold k0_pay1
  simp only [shapeCast_self, narrow_eq]

/-- A chunk in its slot, at an index. -/
theorem slot_at (w : Vec Ideal S8192x512 .f32) (k : Fin 8192) (l : Fin 512) : inSlot (F := Ideal) w (ix3 0 k l) = w (ix2 k l) := by
  unfold inSlot
  simp only [pointwise]

/-- The product of the rows with a chunk, at an index: the exact sum. -/
theorem product_at (v : FVec Ideal S256x8192 .bf16) (w : Vec Ideal S8192x512 .f32) (r : Fin 256) (l : Fin 512) :
    k0_pay2 (F := Ideal) v (inSlot w) (ix2 r l) = (∑ k : Fin 8192, v (ix2 r k) * w (ix2 k l) : EReal) := by
  unfold k0_pay2
  simp only [pointwise]
  rw [zero_add]
  exact Finset.sum_congr rfl fun k _ => by rw [slot_at]

/-! ## The arrays' parts -/

/-- The rows of `x` that device `c` holds. -/
abbrev rowsOf (c : Dev nD) : S256x8192.Idx → EReal := m ((c : Thread nD τ).loc main_arg0)
/-- The `w` that device `c` holds. -/
abbrev wOf (c : Dev nD) : S8192x4096.Idx → EReal := m ((c : Thread nD τ).loc main_arg1)

/-- The rows staged in fast memory are the device's block of `x`. -/
theorem x_at (c : Dev nD) : (xAt (F := Ideal) m c : Vec Ideal S256x8192 .f32) = rowsOf m c := by
  funext y
  show rowsOf m c ((win0_0.blk (0 : Fin 1)).view.emb y) = _
  congr 1
  funext a
  apply Fin.ext
  have h : ∀ a : Fin 2, win0_0.index (0 : Fin 1) a = 0 := by decide +kernel
  show (win0_0.index (0 : Fin 1) a) * _ + 1 * (y a).val = (y a).val
  rw [h]
  omega

/-- Chunk `i` of `w` as device `c` takes it, at an index: the column is shifted by the chunk's first column. -/
theorem w_at (c : Dev nD) (i : Fin 8) (k : Fin 8192) (l : Fin 512) :
    (wAt (F := Ideal) m c i (ix2 k l) : EReal) = wOf m c
      (ix2 k ⟨512 * ((c.val / 4 + i.val) % 8) + l.val, by have := l.isLt; omega⟩) := by
  show wOf m c ((wChunkM c i).view.emb (ix2 k l)) = _
  congr 1
  funext a
  apply Fin.ext
  show k0_off1 c (BitVec.ofNat 32 i.val) a + 1 * ((ix2 k l : S8192x512.Idx) a).val = _
  rw [off1_eq]
  fin_cases a
  · show 0 + 1 * k.val = k.val; omega
  · show 512 * ((c.val / 4 + i.val) % 8) + 1 * l.val = 512 * ((c.val / 4 + i.val) % 8) + l.val; omega

/-- Tile `t` of device `c`, at an index: its column lies in the product of the tile's chunk. -/
theorem tile_at (c : Dev nD) (t : Fin 32) (r : Fin 256) (l : Fin 128) :
    (tileAt (F := Ideal) m c t (ix2 r l) : EReal) = prodAt m c (chunkOf t)
      (ix2 r ⟨128 * ((c.val % 4 + (partOf t).val) % 4) + l.val, by have := l.isLt; omega⟩ : S256x512.Idx) := by
  show prodAt m c (chunkOf t) ((colsRect c (partOf t)).toLoadRect.idx (ix2 r l)) = _
  congr 1
  funext a
  apply Fin.ext
  show k0_off2 c (BitVec.ofNat 32 (partOf t).val) a + 1 * ((ix2 r l : S256x128.Idx) a).val = _
  rw [off2_eq]
  fin_cases a
  · show 0 + 1 * r.val = r.val; omega
  · show 128 * _ + 1 * l.val = 128 * _ + l.val; omega

/-- The columns of the tile that device `q` makes for device `j` are device `j`'s columns of the whole. -/
theorem tile_cols : ∀ q j : Dev nD, 512 * ((q.val / 4 + (chunkOf (tileNo q j)).val) % 8)
    + 128 * ((q.val % 4 + (partOf (tileNo q j)).val) % 4) = 128 * j.val := by decide +kernel

/-- What device `q` sends to device `j`, at an index: the product of `q`'s row of `x` with a column of `j`'s. -/
theorem sent_at (q j : Dev nD) (r : Fin 256) (l : Fin 128) :
    (tileAt (F := Ideal) m q (tileNo q j) (ix2 r l) : EReal)
      = ∑ k : Fin 8192, rowsOf m q (ix2 r k)
          * wOf m q (ix2 k ⟨128 * j.val + l.val, by have := l.isLt; have h : j.val < 32 := j.isLt; omega⟩) := by
  rw [tile_at]
  unfold prodAt
  rw [narrowed, product_at, x_at]
  refine Finset.sum_congr rfl fun k _ => ?_
  rw [w_at]
  have e := tile_cols q j
  congr 3
  apply Fin.ext
  show 512 * _ + (128 * _ + l.val) = 128 * j.val + l.val
  omega

/-- The device that holds row `r` of `x`. -/
def holder (r : Fin 8192) : Dev nD := ⟨r.val / 256, by have := r.isLt; show _ < 32; omega⟩

/-- Device `j`'s result, at an index: the row of `x` lies on the device that the row's band names. -/
theorem out_at (j : Dev nD) (r : Fin 8192) (l : Fin 128) :
    (outAt (F := Ideal) m j (ix2 r l) : EReal)
      = ∑ k : Fin 8192, rowsOf m (holder r) (ix2 ⟨r.val % 256, Nat.mod_lt _ (by decide)⟩ k)
          * wOf m (holder r) (ix2 k ⟨128 * j.val + l.val, by have := l.isLt; have h : j.val < 32 := j.isLt; omega⟩) := by
  rw [← sent_at]
  unfold outAt k0_pay43
  rw [widen_eq]
  unfold gathered stacked
  show tileAt m _ _ _ = _
  congr 1
  funext a
  apply Fin.ext
  fin_cases a <;> rfl

end Cert.KernelIdealProof

end
-- ==== Proof.KernelIdeal.Setup.lean ====
/-
# Setting the exchange up

Before the first step every cell of every device gets its schedule, and each device its places, the duties that it is to
discharge and the right to wait for what the others owe it.
-/
module

public import proofs.«01_k».proof.Proof.KernelIdeal.Whole

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells by their parts -/

/-- The kernel's own semaphores: two for copies, and a send and a receive one for each tile. -/
abbrev osem : Fin 2 ⊕ (Bool × Fin 32) → SemLoc sig
  | .inl s => .dma (copySem s)
  | .inr p => csem (some p)

theorem ownSemFacts : Pipeline.OwnSemFacts cfg0.spec osem := by decide +kernel

/-- A pair of a choice and a number is a number for either choice. -/
theorem pairs_eq (Φ : Bool × Fin 32 → sProp 𝕄) :
    bigSep Finset.univ Φ = iprop(bigSep Finset.univ (fun t => Φ (false, t)) ∗ bigSep Finset.univ (fun t => Φ (true, t))) := by
  rw [BI.bigSep_univ_prod, bigSep_univ_eq_bigSepL [false, true] (by decide) (by decide)]
  rfl
/-- A part is the barrier or belongs to a tile. -/
theorem parts_eq (Φ : Part → sProp 𝕄) :
    bigSep Finset.univ Φ = iprop(Φ none ∗ bigSep Finset.univ (fun p => Φ (some p))) := by
  have e : bigSep Finset.univ Φ = bigSep Finset.univ fun x : Unit ⊕ (Bool × Fin 32) => Φ (((Equiv.optionEquivSumPUnit (Bool × Fin 32)).trans (Equiv.sumComm _ _)).symm x) :=
    BI.bigSep_univ_equiv _ Φ
  rw [e, BI.bigSep_univ_sum, bigSep_univ_eq_bigSepL [()] (by decide) (by decide)]
  rfl

theorem ownSems0_eq (c : Dev nD) : (Pipeline.ownSems0 (Ix := Unit) (Name := ℕ) (U := UU) (Lvl := ℕ) (Val := Elt F) (τ := τ) osem c : sProp 𝕄)
    = iprop(copySems c ∗ bigSep Finset.univ fun p : Bool × Fin 32 => semVal (kcell (c, some p)) 0) := by
  unfold Pipeline.ownSems0 copySems
  rw [BI.bigSep_univ_sum, bigSep_univ_eq_bigSepL [(0 : Fin 2), 1] (by decide) (by decide)]
  rfl
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl
/-- The semaphores of device `c` at rest are the copies' and its cells'. -/
theorem sems_split (c : Dev nD) :
    iprop(Pipeline.ownSems0 (Ix := Unit) (Name := ℕ) (U := UU) (Lvl := ℕ) (Val := Elt F) (τ := τ) osem c ∗ unscopedSems0 c)
      ⊢ (iprop(copySems c ∗ bigSep Finset.univ fun k : Part => semVal (kcell (c, k)) 0) : sProp 𝕄) := by
  rw [ownSems0_eq, unscopedSems0_eq, parts_eq (fun k => semVal (kcell (c, k)) 0)]
  iintro ⟨⟨Hc, Hp⟩, Hb⟩
  isplitl [Hc]; · iexact Hc
  isplitl [Hb]; · iexact Hb
  iexact Hp
theorem sems_join (c : Dev nD) :
    (iprop(copySems c ∗ bigSep Finset.univ fun k : Part => semVal (kcell (c, k)) 0) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, parts_eq (fun k => semVal (kcell (c, k)) 0)]
  iintro ⟨Hc, ⟨Hb, Hp⟩⟩
  isplitl [Hb]; · iexact Hb
  isplitl [Hc]; · iexact Hc
  iexact Hp

/-! ## Duties -/

/-- The duties of device `c`'s own cells. -/
def duties0 (c : Dev nD) : sProp 𝕄 :=
  iprop(bigSep Finset.univ (fun q : Fin 32 => dutyTok ER (barCell c) 0 q)
    ∗ bigSep Finset.univ (fun t : Fin 32 => dutyTok ER (sendCell c t) 0 0) ∗ bigSep Finset.univ (fun t : Fin 32 => dutyTok ER (recvCell c t) 0 0))

/-- The cell and the name of a duty. -/
abbrev dutyPart : Fin 32 ⊕ (Bool × Fin 32) → Part
  | .inl _ => none
  | .inr p => some p
abbrev dutyName : Fin 32 ⊕ (Bool × Fin 32) → Fin 32
  | .inl q => q
  | .inr _ => 0
abbrev dutyOf (x : Dev nD × (Fin 32 ⊕ (Bool × Fin 32))) : GSem nD τ sig × ℕ × Fin 32 := (kcell (x.1, dutyPart x.2), 0, dutyName x.2)
theorem dutyOf_injective : Function.Injective dutyOf := by
  rintro ⟨c, x⟩ ⟨c', x'⟩ h
  have h1 := kcell_injective (congrArg Prod.fst h)
  have h2 : dutyName x = dutyName x' := congrArg (fun y => y.2.2) h
  have hc : c = c' := congrArg Prod.fst h1
  have hp : dutyPart x = dutyPart x' := congrArg Prod.snd h1
  rw [hc]
  refine congrArg _ ?_
  cases x with
  | inl q => cases x' with
    | inl q' => exact congrArg _ h2
    | inr p' => cases hp
  | inr p => cases x' with
    | inl q' => cases hp
    | inr p' => exact congrArg _ (Option.some.inj hp)
def ringCells : Finset (GSem nD τ sig) := Finset.univ.map ⟨kcell, kcell_injective⟩
def ringDuties : Finset (GSem nD τ sig × ℕ × Fin 32) := Finset.univ.map ⟨dutyOf, dutyOf_injective⟩

theorem ringCells_eq (Φ : GSem nD τ sig → sProp 𝕄) :
    bigSep ringCells Φ = bigSep Finset.univ fun c : Dev nD => bigSep Finset.univ fun k : Part => Φ (kcell (c, k)) := by
  unfold ringCells; rw [BI.bigSep_map, BI.bigSep_univ_prod]; rfl
theorem ringDuties_eq : bigSep ringDuties (fun x => (dutyTok ER x.1 x.2.1 x.2.2 : sProp 𝕄)) = bigSep Finset.univ fun c : Dev nD => duties0 c := by
  unfold ringDuties; rw [BI.bigSep_map, BI.bigSep_univ_prod]
  refine BI.bigSep_congr fun c _ => ?_
  unfold duties0
  rw [BI.bigSep_univ_sum, pairs_eq]
  rfl

/-- The duties of a device's own barrier cell, one for each payer, are each payer's duties, one for each signal. -/
theorem deal_bar :
    (bigSep Finset.univ fun c : Dev nD => bigSep Finset.univ fun q : Fin 32 => (dutyTok ER (barCell c) 0 q : sProp 𝕄))
      ⊢ bigSep Finset.univ fun c : Dev nD => bigSepL others fun n => dutyTok ER (barCell (sigDev c n)) 0 c := by
  rw [Pipeline.bigSep_univ_comm (fun (c : Dev nD) (q : Fin 32) => (dutyTok ER (barCell c) 0 q : sProp 𝕄))]
  have h : ∀ q : Fin 32, (bigSep Finset.univ fun c : Dev nD => (dutyTok ER (barCell c) 0 q : sProp 𝕄))
      ⊢ bigSepL others fun n => dutyTok ER (barCell (sigDev q n)) 0 q := fun q => by
    rw [BI.bigSep_univ_equiv (sigEquiv q) (fun c : Dev nD => (dutyTok ER (barCell c) 0 q : sProp 𝕄)),
      numbers_eq (fun n => (dutyTok ER (barCell (sigEquiv q n)) 0 q : sProp 𝕄))]
    iintro ⟨-, H⟩; iexact H
  exact BI.bigSep_mono fun q _ => h q
theorem deal_send :
    (bigSep Finset.univ fun c : Dev nD => bigSep Finset.univ fun t : Fin 32 => (dutyTok ER (sendCell c t) 0 0 : sProp 𝕄))
      ⊢ bigSep Finset.univ fun c : Dev nD => bigSepL others fun t => dutyTok ER (sendCell c t) 0 0 := by
  have h : ∀ c : Dev nD, (bigSep Finset.univ fun t : Fin 32 => (dutyTok ER (sendCell c t) 0 0 : sProp 𝕄))
      ⊢ bigSepL others fun t => dutyTok ER (sendCell c t) 0 0 := fun c => by
    rw [numbers_eq]; iintro ⟨-, H⟩; iexact H
  exact BI.bigSep_mono fun c _ => h c
/-- The duties of the receive cells go to the tiles' senders. -/
theorem deal_recv :
    (bigSep Finset.univ fun c : Dev nD => bigSep Finset.univ fun t : Fin 32 => (dutyTok ER (recvCell c t) 0 0 : sProp 𝕄))
      ⊢ bigSep Finset.univ fun c : Dev nD => bigSepL others fun t => dutyTok ER (recvCell (sendDev c t) t) 0 0 := by
  rw [Pipeline.bigSep_univ_comm (fun (c : Dev nD) (t : Fin 32) => (dutyTok ER (recvCell c t) 0 0 : sProp 𝕄)),
    BI.bigSep_congr (s := Finset.univ) (fun (t : Fin 32) _ => BI.bigSep_univ_equiv (passEquiv t) (fun c : Dev nD => (dutyTok ER (recvCell c t) 0 0 : sProp 𝕄))),
    ← Pipeline.bigSep_univ_comm (fun (c : Dev nD) (t : Fin 32) => (dutyTok ER (recvCell (passEquiv t c) t) 0 0 : sProp 𝕄))]
  have h : ∀ c : Dev nD, (bigSep Finset.univ fun t : Fin 32 => (dutyTok ER (recvCell (passEquiv t c) t) 0 0 : sProp 𝕄))
      ⊢ bigSepL others fun t => dutyTok ER (recvCell (sendDev c t) t) 0 0 := fun c => by
    rw [numbers_eq]; iintro ⟨-, H⟩; iexact H
  exact BI.bigSep_mono fun c _ => h c

/-- The duties of all cells, dealt out to those who discharge them. -/
theorem deal : (bigSep Finset.univ fun c : Dev nD => (duties0 c : sProp 𝕄)) ⊢ bigSep Finset.univ fun c : Dev nD => tokens c := by
  unfold duties0 tokens
  rw [BI.bigSep_sep', BI.bigSep_sep', BI.bigSep_sep', BI.bigSep_sep']
  iintro ⟨H1, H2, H3⟩
  isplitl [H1]; · iapply deal_bar; iexact H1
  isplitl [H2]; · iapply deal_send; iexact H2
  iapply deal_recv; iexact H3

/-! ## The cells -/

/-- Device `c`'s places at all its cells, at the start. -/
def placesAll (c : Dev nD) : sProp 𝕄 := bigSep Finset.univ fun k : Part => atPos ER (kcell (c, k)) 0 ∅ 0

/-- What the launch deals to device `c` at the start. -/
def G (c : Dev nD) : sProp 𝕄 :=
  iprop((bigSep Finset.univ fun k : Part => roundState ER (ringRd m) (kcell (c, k)) 0)
    ∗ placesAll c ∗ (bigSep Finset.univ fun k : Part => reached ER (kcell (c, k)) 0) ∗ duties0 c)
/-- What device `c` has once all cells are set up. -/
def G' (c : Dev nD) : sProp 𝕄 := iprop(∃ K, cellsKnown m K ∗ copySems c ∗ placesAll c ∗ tokens c)

theorem fund_ring : BI.own (ER (initOf ringCells ringDuties)) ⊢ (|==> bigSep Finset.univ (G m) : sProp 𝕄) := by
  iintro HX
  imod (Rounds.fund ER (ringRd m) ringCells ringDuties) $$ HX with ⟨Hst, Hr, Hat, Htok⟩
  imodintro
  ihave Hst' := (Entails.of_eq (ringCells_eq fun g => roundState ER (ringRd m) g 0)) $$ Hst
  ihave Hat' := (Entails.of_eq (ringCells_eq fun g => atPos ER g 0 ∅ 0)) $$ Hat
  ihave Hr' := (Entails.of_eq (ringCells_eq fun g => reached ER g 0)) $$ Hr
  ihave Htok' := (Entails.of_eq ringDuties_eq) $$ Htok
  unfold G placesAll; simp only [BI.bigSep_sep']
  isplitl [Hst']; · iexact Hst'
  isplitl [Hat']; · iexact Hat'
  isplitl [Hr'] <;> iassumption

/-- One device's cells get their schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Part => reached ER (kcell (c, k)) 0) ∗ duties0 c ∗ copySems c ∗ placesAll c) := by
  have h : iprop((bigSep Finset.univ fun k : Part => semVal (kcell (c, k)) 0) ∗ bigSep Finset.univ fun k : Part => roundState ER (ringRd m) (kcell (c, k)) 0)
      ⊢ (|={Set.univ}=> bigSep Finset.univ fun k => iprop(∃ κ : ℕ, cellInv ER (ringRd m) κ (kcell (c, k))) : sProp 𝕄) := by
    rw [← BI.bigSep_sep']
    exact (BI.bigSep_mono fun k _ => (Rounds.body_intro ER (ringRd m) (kcell (c, k))).trans inv_alloc).trans (bigSep_fupd _ _)
  unfold G
  iintro ⟨Hos, Hus, Hst, Hat, Hr, Htok⟩
  ihave Hv := (sems_split (F := F) c) $$ [Hos Hus]
  · isplitl [Hos] <;> iassumption
  icases Hv with ⟨Hcp, Hv⟩
  imod h $$ [Hv Hst] with Hinv
  · isplitl [Hv] <;> iassumption
  imodintro
  isplitl [Hinv]; · iexact Hinv
  isplitl [Hr]; · iexact Hr
  isplitl [Htok]; · iexact Htok
  isplitl [Hcp] <;> iassumption

/-- What all devices know goes to each of them. -/
theorem share_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

theorem known_intro (K : Dev nD × Part → ℕ) (c : Dev nD) : iprop(cellsKnown m K ∗ (copySems c ∗ placesAll c ∗ tokens c)) ⊢ G' m c := by
  unfold G'
  iintro H; iexists K; iexact H

theorem regroup :
    (bigSep Finset.univ fun c : Dev nD => iprop((bigSep Finset.univ fun k => iprop(∃ κ : ℕ, cellInv ER (ringRd m) κ (kcell (c, k))))
          ∗ (bigSep Finset.univ fun k : Part => reached ER (kcell (c, k)) 0) ∗ duties0 c ∗ copySems c ∗ placesAll c) : sProp 𝕄)
      ⊢ bigSep Finset.univ (G' m) := by
  rw [BI.bigSep_sep', BI.bigSep_sep', BI.bigSep_sep', BI.bigSep_sep',
    ← BI.bigSep_univ_prod (fun ck : Dev nD × Part => iprop(∃ κ : ℕ, cellInv ER (ringRd m) κ (kcell ck))),
    ← BI.bigSep_univ_prod (fun ck : Dev nD × Part => (reached ER (kcell ck) 0 : sProp 𝕄))]
  iintro ⟨HI, #HR, Htok, Hcp, Hat⟩
  ihave HK := (BI.bigSep_exists_pi Finset.univ (fun (ck : Dev nD × Part) (κ : ℕ) => (cellInv ER (ringRd m) κ (kcell ck) : sProp 𝕄))) $$ HI
  icases HK with ⟨%K, #HI⟩
  ihave Htk := (deal (F := F)) $$ Htok
  iapply (share_known (R := cellsKnown m K) fun c _ => known_intro m K c)
  isplitr
  · unfold cellsKnown; isplitl; · iexact HI
    iexact HR
  · rw [BI.bigSep_sep', BI.bigSep_sep']
    isplitl [Hcp]; · iexact Hcp
    isplitl [Hat] <;> iassumption

/-- All devices' cells are set up together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## What the devices may wait for -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {t u : Fin 32} : Iff (recvCell a t = recvCell b u) (a = b ∧ t = u) :=
  ⟨fun h => by
      have := kcell_injective (a₁ := (a, some (true, t))) (a₂ := (b, some (true, u))) h
      exact ⟨congrArg Prod.fst this, by have h2 := congrArg Prod.snd this; exact congrArg Prod.snd (Option.some.inj h2)⟩,
    fun h => by rw [h.1, h.2]⟩
theorem bar_ne_recv (a b : Dev nD) (t : Fin 32) : barCell a ≠ recvCell b t := fun h => by
  have := kcell_injective (a₁ := (a, none)) (a₂ := (b, some (true, t))) h
  cases congrArg Prod.snd this

theorem oweT_bar (d c : Dev nD) : ∀ l, oweT d l (barCell c) () = 0
  | [] => rfl
  | t :: l => by
    unfold oweT
    rw [Pi.add_apply, Finsupp.add_apply, oweT_bar d c l, Nat.zero_add]
    unfold oweT1; split
    · rfl
    · rw [tallyAt_ne_cell (bar_ne_recv _ _ _)]; rfl
theorem oweSig_bar (d c : Dev nD) : ∀ l : List (Fin 32), l.Nodup → oweSig d l (barCell c) () = if sigNo d c ∈ l then 1 else 0
  | [], _ => oweT_bar d c _
  | n :: l, h => by
    unfold oweSig
    rw [Pi.add_apply, Finsupp.add_apply, oweSig_bar d c l (List.nodup_cons.mp h).2, tallyAt_apply]
    by_cases hn : sigNo d c = n
    · rw [if_neg (hn ▸ (List.nodup_cons.mp h).1), if_pos ⟨bar_eq_iff.mpr (by rw [← hn, sigDev_sigNo]), rfl⟩, if_pos (hn ▸ List.mem_cons_self)]
    · rw [if_neg (fun h' : _ ∧ _ => hn (by rw [bar_eq_iff.mp h'.1, sigNo_sigDev])), Nat.add_zero]
      exact if_congr ⟨fun h => List.mem_cons_of_mem _ h, fun h => (List.mem_cons.mp h).resolve_left hn⟩ rfl rfl
theorem oweT_recv (d c : Dev nD) (t : Fin 32) (ht : t ≠ 0) :
    ∀ l : List (Fin 32), l.Nodup → oweT d l (recvCell c t) () = if t ∈ l ∧ d = srcDev c t then N else 0
  | [], _ => by rw [if_neg (fun h => absurd h.1 List.not_mem_nil)]; rfl
  | u :: l, h => by
    have ih := oweT_recv d c t ht l (List.nodup_cons.mp h).2
    unfold oweT
    rw [Pi.add_apply, Finsupp.add_apply, ih]
    by_cases hu : t = u
    · subst hu
      rw [if_neg (fun h' => (List.nodup_cons.mp h).1 h'.1), Nat.zero_add, oweT1, if_neg ht, tallyAt_apply]
      exact if_congr ⟨fun h' => ⟨List.mem_cons_self, by rw [(recv_eq_iff.mp h'.1).1, srcDev_sendDev]⟩,
        fun h' => ⟨recv_eq_iff.mpr ⟨by rw [h'.2, sendDev_srcDev], rfl⟩, rfl⟩⟩ rfl rfl
    · have h0 : oweT1 d u (recvCell c t) () = 0 := by
        unfold oweT1; split
        · rfl
        · rw [tallyAt_ne_cell (fun h' => hu (recv_eq_iff.mp h').2)]; rfl
      rw [h0, Nat.add_zero]
      exact if_congr ⟨fun h' => ⟨List.mem_cons_of_mem _ h'.1, h'.2⟩, fun h' => ⟨(List.mem_cons.mp h'.1).resolve_left hu, h'.2⟩⟩ rfl rfl
theorem oweSig_recv (d c : Dev nD) (t : Fin 32) : ∀ l, oweSig d l (recvCell c t) () = oweT d (chunks.flatMap tilesOf) (recvCell c t) ()
  | [] => rfl
  | n :: l => by
    unfold oweSig
    rw [Pi.add_apply, Finsupp.add_apply, oweSig_recv d c t l, tallyAt_ne_cell (fun h => bar_ne_recv _ _ _ h.symm)]; rfl

theorem signals_in : ∀ c : Dev nD, (∑ d : Dev nD, if sigNo d c ∈ others then 1 else 0) = 31 := by decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  have h : ∀ d : Dev nD, O₀ d (barCell c) () = if sigNo d c ∈ others then 1 else 0 := fun d => oweSig_bar d c others others_nodup
  rw [Pipeline.launchCredit_owing, Finsupp.single_eq_same, Finset.sum_congr rfl fun d _ => h d]
  exact signals_in c
theorem launch_recv (c : Dev nD) (t : Fin 32) (ht : t ≠ 0) :
    tallyOn (recvCell c t) (launchCredit (Pipeline.owing O₀) 0 (recvCell c t)) = (tallyAt (recvCell c t) () N : CellTallies nD τ sig Unit) := by
  unfold tallyAt; refine congrArg _ (Finsupp.ext fun u => ?_); cases u
  have h : ∀ d : Dev nD, O₀ d (recvCell c t) () = if d = srcDev c t then N else 0 := fun d => by
    unfold O₀
    rw [oweSig_recv, chunks_tiles, oweT_recv d c t ht _ zero_others_nodup]
    exact if_congr ⟨fun h' => h'.2, fun h' => ⟨zero_others_all t, h'⟩⟩ rfl rfl
  rw [Pipeline.launchCredit_owing, Finsupp.single_eq_same, Finset.sum_congr rfl fun d _ => h d,
    Finset.sum_ite_eq' Finset.univ (srcDev c t) fun _ => N, if_pos (Finset.mem_univ _)]

/-- What the others owe device `c` is what it waits for. -/
theorem creds (c : Dev nD) : (Pipeline.launchCred O₀ c : sProp 𝕄) ⊢ credits c := by
  have h1 : (Pipeline.launchCred O₀ c : sProp 𝕄)
      ⊢ bigSep (Finset.univ.map ⟨csem, csem_injective⟩) fun sm : SemLoc sig =>
          cred (tallyOn ((c : Thread nD τ), sm) (launchCredit (Pipeline.owing O₀) 0 ((c : Thread nD τ), sm))) :=
    BI.bigSep_subset (Finset.subset_univ _)
  have h2 : bigSepL others (fun t => (cred (tallyOn (recvCell c t) (launchCredit (Pipeline.owing O₀) 0 (recvCell c t))) : sProp 𝕄))
      ⊢ bigSepL others (fun t => (cred (tallyAt (recvCell c t) () N) : sProp 𝕄)) :=
    bigSepL_mono fun t ht => by rw [launch_recv c t (others_ne_zero t ht)]
  refine h1.trans ?_
  rw [BI.bigSep_map, parts_eq, pairs_eq, numbers_eq (fun t => _), numbers_eq (fun t => _)]
  unfold credits
  iintro ⟨Hb, -, -, Hr⟩
  isplitl [Hb]
  · iapply (Entails.of_eq (congrArg cred (launch_bar c))); iexact Hb
  · iapply h2; iexact Hr

end Cert.KernelIdealProof

end
-- ==== Proof.KernelIdeal.Run.lean ====
/-
# The run

The body as the launch needs it, and the run of the whole program on all devices: it ends, with each device's result buffer
holding `outAt`, its arguments as they were, and every semaphore at rest.
-/
module

public import proofs.«01_k».proof.Proof.KernelIdeal.Setup
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## Before and after the body -/

/-- What device `c` brings to the body, but for the scratch buffers. -/
def start (c : Dev nD) : sProp 𝕄 :=
  iprop(G' m c ∗ credits c ∗ order ∗ has c main_arg1 (m ((c : Thread nD τ).loc main_arg1)))
def Φ₀ (c : Dev nD) : sProp 𝕄 := iprop(start m c ∗ scratch c)
/-- What it has afterwards: the semaphores at rest. -/
def Φ₁ (c : Dev nD) : sProp 𝕄 :=
  iprop(has c main_arg1 (m ((c : Thread nD τ).loc main_arg1)) ∗ scratch c ∗ copySems c ∗ bigSep Finset.univ fun k : Part => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Closing the cells -/

/-- The round at which a cell is left: the cells of tile 0 are never used. -/
def leftAt : Part → ℕ
  | none => 1
  | some (_, t) => if t = 0 then 0 else 1
theorem leftAt_done (c : Dev nD) : ∀ (k : Part) (r : ℕ), leftAt k ≤ r → (ringRd (F := F) m).duties (kcell (c, k)) r = ∅
  | none, r, h => duties_later m _ r h
  | some (b, t), r, h => by
    by_cases ht : t = 0
    · subst ht; exact duties_zero m c b r
    · exact duties_later m _ r (by
        have h' : (if t = 0 then 0 else 1) ≤ r := h
        rwa [if_neg ht] at h')

/-- The places of the cells that are never used. -/
def unused (c : Dev nD) : sProp 𝕄 := iprop(atPos ER (sendCell c 0) 0 ∅ 0 ∗ atPos ER (recvCell c 0) 0 ∅ 0)

theorem places_open (c : Dev nD) : (placesAll c : sProp 𝕄) ⊢ iprop(places c 0 ∗ unused c) := by
  unfold placesAll places unused
  rw [parts_eq, pairs_eq, numbers_eq (fun t => atPos ER (kcell (c, some (false, t))) 0 ∅ 0), numbers_eq (fun t => atPos ER (kcell (c, some (true, t))) 0 ∅ 0)]
  iintro ⟨Hb, ⟨Hs0, Hs⟩, Hr0, Hr⟩
  isplitl [Hb Hs Hr]
  · isplitl [Hb]; · iexact Hb
    isplitl [Hs]; · iexact Hs
    iexact Hr
  isplitl [Hs0]; · iexact Hs0
  iexact Hr0

theorem places_left (c : Dev nD) :
    iprop(places c 1 ∗ unused c) ⊢ (bigSep Finset.univ fun k : Part => atPos ER (kcell (c, k)) (leftAt k) ∅ 0 : sProp 𝕄) := by
  have h : ∀ b : Bool, bigSepL others (fun t => (atPos ER (kcell (c, some (b, t))) 1 ∅ 0 : sProp 𝕄))
      ⊢ bigSepL others (fun t => (atPos ER (kcell (c, some (b, t))) (leftAt (some (b, t))) ∅ 0 : sProp 𝕄)) := fun b =>
    bigSepL_mono fun t ht => by rw [show leftAt (some (b, t)) = 1 from if_neg (others_ne_zero t ht)]
  rw [parts_eq, pairs_eq, numbers_eq (fun t => atPos ER (kcell (c, some (false, t))) (leftAt (some (false, t))) ∅ 0),
    numbers_eq (fun t => atPos ER (kcell (c, some (true, t))) (leftAt (some (true, t))) ∅ 0)]
  unfold places unused
  iintro ⟨⟨Hb, Hs, Hr⟩, Hs0, Hr0⟩
  isplitl [Hb]; · iexact Hb
  isplitl [Hs Hs0]
  · isplitl [Hs0]; · iexact Hs0
    iapply (h false); iexact Hs
  isplitl [Hr0]; · iexact Hr0
  iapply (h true); iexact Hr

/-- All of a device's cells come to rest. -/
theorem cells_rest (K : Dev nD × Part → ℕ) (c : Dev nD) :
    iprop(records m K ∗ (places c 1 ∗ unused c)) ⊢ (|={Set.univ}=> bigSep Finset.univ fun k : Part => semVal (kcell (c, k)) 0 : sProp 𝕄) := by
  have h : ∀ k : Part, iprop(records m K ∗ atPos ER (kcell (c, k)) (leftAt k) ∅ 0)
      ⊢ (iprop(cellInv ER (ringRd m) (K (c, k)) (kcell (c, k)) ∗ atPos ER (kcell (c, k)) (leftAt k) ∅ 0) : sProp 𝕄) := fun k => by
    iintro ⟨HR, H⟩
    isplitl [HR]; · iapply (known_inv m K (c, k)); iexact HR
    iexact H
  have h2 := Rounds.cells_close ER (ringRd m) (Finset.univ : Finset Part) (fun k => kcell (c, k)) (fun k => K (c, k)) (Es := Set.univ)
    (fun _ _ => Set.mem_univ _) (fun _ _ h => h) leftAt (fun k _ => leftAt_done m c k)
  have h1 := share_known (F := F) (S := Finset.univ) (R := records m K) fun (k : Part) _ => h k
  iintro ⟨#HR, Hp⟩
  ihave Hp := (places_left c) $$ Hp
  iapply h2
  iapply h1
  isplitr; · iexact HR
  iexact Hp

/-! ## The body -/

abbrev stg (c : Dev nD) (b : Ref sig .tc) (X : b.ty.Contents (Elt F)) : sProp 𝕄 :=
  owns (c : Thread nD τ) (Memref.whole b) fullShare X
theorem stg_has (c : Dev nD) (b : Ref sig .tc) (X : b.ty.Contents (Elt F)) : (stg c b X : sProp 𝕄) ⊢ has c b X := by
  unfold stg; rw [owns_whole_eq]; iintro ⟨%f, %hf, H⟩; subst hf; iexact H
theorem has_stg (c : Dev nD) (b : Ref sig .tc) (X : b.ty.Contents (Elt F)) : has c b X ⊢ (stg c b X : sProp 𝕄) := by
  unfold stg; rw [owns_whole_eq]; iintro H; iexists X; isplitr; · (ipureintro; rfl)
  iexact H

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () (t0_0 : Fin cfg0.N).succ ∗ stg c cc0_stg0_0 (xAt m c) ∗ stg c cc0_stg1_0 (outAt m c))

theorem owes_in (c : Dev nD) : ((dats m 0 c).owesAt () (t0_0 : Fin cfg0.N).castSucc : sProp 𝕄) ⊢ owesAny c (O₀ c) := by
  unfold Dat.owesAt Pipeline.owesWithin owesAny
  rw [show (dats m 0 c).owed (t0_0 : Fin cfg0.N).castSucc = O₀ c from rfl]
  iintro ⟨%W, %hW, HO⟩
  iexists W; iexact HO
theorem owes_out (c : Dev nD) : owesAny c 0 ⊢ ((dats m 0 c).owesAt () (t0_0 : Fin cfg0.N).succ : sProp 𝕄) := by
  unfold Dat.owesAt Pipeline.owesWithin owesAny
  rw [show (dats m 0 c).owed (t0_0 : Fin cfg0.N).succ = 0 from rfl]
  iintro ⟨%W, HO⟩
  iexists W
  isplitr; · ipureintro; exact fun _ _ => Or.inl trivial
  iexact HO
theorem before_x (c : Dev nD) (d) : (dats m 0 c).before (0 : Fin 2) t0_0 d = xAt m c := by
  unfold Dat.before; rw [if_pos (fetch_0 t0_0)]; rfl

/-- The body leads from what the launch gives to what it takes back. -/
theorem body_sound (c : Dev nD) : bodyPre m c ⊢ runs c (bodyOn c) (fun _ => bodyPost m c) := by
  unfold bodyPre Φ₀ start G'
  iintro ⟨⟨⟨⟨%K, #HK, Hcp, Hpl, Htk⟩, Hcr, #HL, Hw⟩, Hscr⟩, Ho, ⟨%d0, Hx⟩, ⟨%d1, Hout⟩⟩
  rw [before_x]
  ihave Hx := (stg_has c cc0_stg0_0 _) $$ Hx
  ihave Hout := (stg_has c cc0_stg1_0 _) $$ Hout
  ihave HO := (owes_in m c) $$ Ho
  ihave Hpl := (places_open c) $$ Hpl
  icases Hpl with ⟨Hpl, Hun⟩
  iapply (body_runs m K c) $$ [Hcp Hpl Htk Hcr Hw Hscr HO Hx Hout]
  · unfold before records common
    isplitr
    · isplitr; · iexact HK
      iexact HL
    isplitl [Htk]; · iexact Htk
    isplitl [Hpl]; · iexact Hpl
    isplitl [Hcr]; · iexact Hcr
    isplitl [Hcp Hw Hx Hscr]
    · isplitl [Hcp]; · iexact Hcp
      isplitl [Hw]; · iexact Hw
      isplitl [Hx]; · iexact Hx
      iexact Hscr
    isplitl [Hout]; · iexists _; iexact Hout
    iexact HO
  unfold afterAll common
  iintro ⟨Hpl, ⟨Hcp, Hw, Hx, Hscr⟩, Hout, HO⟩
  ihave HR := (show iprop(cellsKnown m K ∗ order) ⊢ records m K by unfold records; exact .rfl) $$ []
  · isplitr; · iexact HK
    iexact HL
  imod (cells_rest m K c) $$ [HR Hpl Hun] with Hz
  · isplitl [HR]; · iexact HR
    isplitl [Hpl] <;> iassumption
  rw [wp_ret]; imodintro
  unfold bodyPost Φ₁
  isplitl [Hw Hscr Hcp Hz]
  · isplitl [Hw]; · iexact Hw
    isplitl [Hscr]; · iexact Hscr
    isplitl [Hcp]; · iexact Hcp
    iexact Hz
  isplitl [HO]; · iapply (owes_out m c); iexact HO
  isplitl [Hx]; · iapply (has_stg c cc0_stg0_0 _); iexact Hx
  iapply (has_stg c cc0_stg1_0 _); iexact Hout

/-- The printed body, as the launch calls it, on this module's names. -/
theorem prog_eq : (defs₀ (F := F)) .tc cfg0.body (cfg0.bodyArgs t0_0 (cfg0.slots t0_0))
    = cc0_body (F := F) xM (Memref.isWhole_whole _) wM (Memref.isWhole_whole _) oM (Memref.isWhole_whole _) xbM (Memref.isWhole_whole _)
      wbM (Memref.isWhole_whole _) mbM (Memref.isWhole_whole _) tlM (Memref.isWhole_whole _) rbM (Memref.isWhole_whole _)
      cc0_scratch5 cc0_scratch6 cc0_scratch7 := rfl

set_option maxRecDepth 100000 in
theorem body_obligation (c : Dev nD) : BodyObligation (dats (F := F) m 0 c) (defs₀ (F := F)) 𝒱₀ () Set.univ := fun t => by
  rw [fin_N0 t, bigSep_W0, bigSep_W0, prog_eq, body_eq, wp_deviceId]
  exact @body_sound F _ m c

/-! ## The launch -/

def u₀ : UU :=
  (initOf (Pipeline.cells cfgs cellOf_inj) (Pipeline.launchToks cfgs cellOf_inj), (initOf ringCells ringDuties, 1))

theorem share_eq (c : Dev nD) (w : Fin cfg0.W) : (dats m 0 c).share w = fullShare := by unfold Dat.share; split <;> rfl

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb (embR : Emb (UB × Counters) 𝕄) _ _) $$ HX
  icases HX with ⟨HX, -⟩
  imod (fund_ring m) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start order
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is left of device `c` at the end. -/
def leftover (c : Dev nD) : sProp 𝕄 := iprop(unscopedSems0 c ∗ has c main_arg1 (m ((c : Thread nD τ).loc main_arg1)))

theorem phi1_exit (c : Dev nD) :
    (dats m 0 c).Φ (Fin.last cfg0.N) ⊢ iprop(leftover m c ∗ Pipeline.ownSems0 osem c ∗ Pipeline.scopedRest cfg0.spec c) := by
  rw [show (dats m 0 c).Φ (Fin.last cfg0.N) = Φ₁ m c from rfl, scopedRest0_eq]
  unfold Φ₁ scratch leftover
  iintro ⟨Hw, Hr, Hcp, Hz⟩
  ihave Hz := (sems_join (F := F) c) $$ [Hcp Hz]
  · isplitl [Hcp]; · iexact Hcp
    iexact Hz
  icases Hz with ⟨Hu, Ho⟩
  isplitl [Hu Hw]
  · isplitl [Hu]; · iexact Hu
    iexact Hw
  isplitl [Ho]; · iexact Ho
  iexact Hr

/-- At the end the semaphores outside the kernel are at rest and `w` is as it was. -/
def leftRead (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem leftover_read (c : Dev nD) (s' : Phys nD τ sig (Elt F)) :
    iprop(leftover m c ∗ emp ∗ SI s') ⊢ (|={Set.univ}=> iprop(⌜leftRead m c s'.mem⌝ ∗ SI s') : sProp 𝕄) := by
  have hw : iprop((bigSep (Finset.univ : Finset Unit) fun _ => has c main_arg1 (m ((c : Thread nD τ).loc main_arg1))) ∗ SI s')
      ⊢ (iprop(⌜∀ i ∈ (Finset.univ : Finset Unit), s'.mem.mem ((c : Thread nD τ).loc main_arg1) = m ((c : Thread nD τ).loc main_arg1)⌝ ∗ SI s') : sProp 𝕄) :=
    pointsTo_read_all Finset.univ (fun _ : Unit => (c : Thread nD τ).loc main_arg1) (fun _ => m ((c : Thread nD τ).loc main_arg1)) s'
  rw [bigSep_univ_eq_bigSepL [()] (by decide) (by decide)] at hw
  have hw' : iprop(has c main_arg1 (m ((c : Thread nD τ).loc main_arg1)) ∗ SI s')
      ⊢ (iprop(⌜∀ i ∈ (Finset.univ : Finset Unit), s'.mem.mem ((c : Thread nD τ).loc main_arg1) = m ((c : Thread nD τ).loc main_arg1)⌝ ∗ SI s') : sProp 𝕄) := hw
  unfold leftover
  iintro ⟨⟨Hu, Hw⟩, -, HSI⟩
  ihave H := hw' $$ [Hw HSI]
  · isplitl [Hw]; · iexact Hw
    iexact HSI
  icases H with ⟨%h1, HSI⟩
  imod (Pipeline.unscopedSems0_read (X := unscopedSems0 c) (c := c) fupd_intro s') $$ [Hu HSI] with ⟨%h2, HSI⟩
  · isplitl [Hu] <;> iassumption
  imodintro
  isplitr
  · ipureintro; exact ⟨h2, h1 () (Finset.mem_univ _)⟩
  iexact HSI

theorem stage_low : ∀ (w : Fin cfg0.W) (s : Fin (cfg0.spec w).nbuf), partRole (.dma ((cfg0.spec w).sem s)) = none := by decide +kernel

theorem waits (c : Dev nD) : (levAts L lv : sProp 𝕄) ⊢ Pipeline.cellsWaits cfgs (dats m) () 0 c :=
  Pipeline.cellsWaits_intro cfgs (dats m) () 0 c fun w s t =>
    mayWait_above c _ 0 _ (by unfold lv; rw [show partRole _ = none from stage_low w s]) (by
      rcases t with ⟨_ | _, ht⟩
      · exact above_oweSig c others
      · exact above_zero 0)

/-! ## The run -/

/-- What window `w`'s array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 100000 in
/-- Every fair run of the program on the 32 devices ends with the arrays as computed, `w` as it was, and the semaphores at rest. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund m) (hglob := glob m)
    (hA := fun _ _ => rfl) (hpf := fun _ k => k.elim0)
    (X := start m) (Y := leftover m) (Z := fun _ => iprop(emp))
    (hX := start_intro m ρ) (hin := phi0_intro m) (hout := phi1_exit m)
    (QY := leftRead m) (hY := leftover_read m)
    (hQ := fun _ h hs => ⟨fun c => ⟨fun w => (h c).1 w, (h c).2.2.2⟩, sem_eq_zero hs fun c => (h c).2.2.1⟩)

/-- `x` is as it was. -/
theorem finalA_x (c : Dev nD) : finalA m c (0 : Fin 2) = m (win0_0.arr.view.loc (c : Thread nD τ)) :=
  (dats (F := F) m 0 c).arrAt_in (0 : Fin 2) rfl _

/-- The arguments are as they were and the semaphores at rest. -/
theorem run_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (finalA_x m c), (h.1 c).2⟩, h.2⟩) (run_main m ρ)

end Cert.KernelIdealProof

end
-- ==== Proof.KernelIdeal.Result.lean ====
/-
# The result array

The launch has one point, whose block of the result is the whole array. So after the run the array holds what the body
left, and the module states the run with that value.
-/
module

public import proofs.«01_k».proof.Proof.KernelIdeal.Run
public import Idealize.ShloMosaic.Lib.Pipeline.Value
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The result array ends with what the body left in its staging buffer. -/
theorem finalA_out (c : Dev nD) : finalA m c (1 : Fin 2) = (outAt m c : Vec F S8192x128 .f32) := by
  refine (dats m 0 c).arrAt_eq_of_after_last (1 : Fin 2) t0_0 (by decide +kernel) _ fun j => ?_
  rfl

/-- The kernel's run: every device's result is `outAt`, and its arguments are as they were. -/
theorem run_value : θ_run defs (onTc (τ := τ) (main (F := F))) ⟨m, fun _ => 0, ρ⟩ (fun r => ∀ c : Dev nD,
      r.2.mem ((c.tc : Thread nD τ).loc main_v1) = (outAt m c : Vec F S8192x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (finalA_out m c), ((h.1 c).1 0).trans (finalA_x m c), (h.1 c).2⟩) (run_main m ρ)

end Cert.KernelIdealProof

end
-- ==== Proof.Equation.lean ====
/-
# The kernel's results are the reference's

The reference multiplies the whole `x` with the whole `w`. Over the extended reals its result at a row and a column is
the exact sum of the products along the row and the column. Device `j` of the kernel holds such sums for every row and
for its own 128 columns, so its result is block `j` of the reference's along the columns. The module reads the
reference at an index, compares the two sums, and states the claim.
-/
module

public import proofs.«01_k».proof.Defs
public import proofs.«01_k».proof.Proof.KernelIdeal.Product
public import proofs.«01_k».proof.Proof.KernelIdeal.Result
public import proofs.«01_k».proof.Proof.Gen.ReferenceIdeal.Run
public import Idealize.ShloMosaic.Lib.Pointwise
public import Idealize.ShloMosaic.Lib.Quiescent

@[expose] public section

noncomputable section

namespace Cert.Equation

open Idealize.ShloMosaic Idealize.SL.Sem Idealize.ShloMosaic.TcCoe

/-- The reference's result of the whole `x` and the whole `w`. -/
abbrev whole (x : FVec Ideal ReferenceIdeal.S8192x8192 .f32) (w : FVec Ideal ReferenceIdeal.S8192x4096 .f32) :
    FVec Ideal ReferenceIdeal.S8192x4096 .f32 :=
  Host.dotGeneral ReferenceIdeal.dot_S8192x8192_S8192x4096_S8192x4096_1_0_0_1_n_n none x w

/-- The reference's result at an index: the exact sum along a row of `x` and a column of `w`. -/
theorem whole_at (x : FVec Ideal ReferenceIdeal.S8192x8192 .f32) (w : FVec Ideal ReferenceIdeal.S8192x4096 .f32)
    (r : Fin 8192) (n : Fin 4096) :
    whole x w (ix2 r n) = (∑ k : Fin 8192, x (ix2 r k) * w (ix2 k n) : EReal) := by
  unfold whole
  simp only [pointwise]
  rw [zero_add]

/-- Device `c`'s block of rows of `x`, at an index. -/
theorem rows_at (x : ReferenceIdeal.S8192x8192.Idx → EReal) (c : Fin 32) (r : Fin 256) (k : Fin 8192) :
    Layout.block ⟨2, ![256, 8192]⟩ ⟨2, ![8192, 8192]⟩ 0 32 c x (by decide) (ix2 r k)
      = x (ix2 ⟨256 * c.val + r.val, by have := r.isLt; have := c.isLt; omega⟩ k) := by
  show x _ = x _
  congr 1
  funext a
  apply Fin.ext
  fin_cases a
  · show c.val * 256 + r.val = 256 * c.val + r.val; omega
  · rfl

/-- Device `j`'s block of columns of the reference's result, at an index. -/
theorem cols_at (v : ReferenceIdeal.S8192x4096.Idx → EReal) (j : Fin 32) (r : Fin 8192) (l : Fin 128) :
    Layout.block ⟨2, ![8192, 128]⟩ ⟨2, ![8192, 4096]⟩ 1 32 j v (by decide) (ix2 r l)
      = v (ix2 r ⟨128 * j.val + l.val, by have := l.isLt; have := j.isLt; omega⟩) := by
  show v _ = v _
  congr 1
  funext a
  apply Fin.ext
  fin_cases a
  · rfl
  · show j.val * 128 + l.val = 128 * j.val + l.val; omega

/-- If every device holds its rows of `x` and all of `w`, device `j`'s result is block `j` of the reference's. -/
theorem results_agree (m : (ℓ : Loc KernelIdeal.nD KernelIdeal.τ KernelIdeal.sig) → Buf (Elt Ideal) ℓ)
    (x : FVec Ideal ReferenceIdeal.S8192x8192 .f32) (w : FVec Ideal ReferenceIdeal.S8192x4096 .f32)
    (hx : ∀ c : Dev KernelIdeal.nD, KernelIdealProof.rowsOf m c = Layout.block ⟨2, ![256, 8192]⟩ ⟨2, ![8192, 8192]⟩ 0 32 c x)
    (hw : ∀ c : Dev KernelIdeal.nD, KernelIdealProof.wOf m c = w) (j : Dev KernelIdeal.nD) :
    (KernelIdealProof.outAt m j : KernelIdeal.S8192x128.Idx → EReal)
      = Layout.block ⟨2, ![8192, 128]⟩ ⟨2, ![8192, 4096]⟩ 1 32 j (whole x w) := by
  funext y
  obtain ⟨r, l, rfl⟩ : ∃ (r : Fin 8192) (l : Fin 128), y = ix2 r l := ⟨y 0, y 1, eq_ix2 y⟩
  refine (KernelIdealProof.out_at m j r l).trans (Eq.trans ?_ (cols_at (whole x w) j r l).symm)
  rw [whole_at]
  refine Finset.sum_congr rfl fun k _ => ?_
  rw [hx, hw, rows_at]
  have e : (⟨256 * (KernelIdealProof.holder r).val + r.val % 256, by
      have := r.isLt; show 256 * (r.val / 256) + _ < _; omega⟩ : Fin 8192) = r :=
    Fin.ext (by show 256 * (r.val / 256) + r.val % 256 = r.val; omega)
  exact congrArg (fun r' => x (ix2 r' k) * w _) e

/-- The reference runs, leaves its arguments as they were, and has no semaphore. -/
theorem quiet_reference : Cert.quiescent_ReferenceIdeal (hReferenceIdeal := Cert.ReferenceIdeal.Gen.facts) :=
  fun m g _ => (θ_run (ReferenceIdeal.defs (F := Ideal)) _ _).mono
    (fun r h => ⟨fun c => (h c).2, sem_eq_zero_of_no_sems (by decide) r.2⟩) (ReferenceIdeal.Value.run (F := Ideal) m g)

/-- From arguments laid out over the devices, device `c`'s result is block `c` of the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨whole (m' (((0 : Dev ReferenceIdeal.nD) : Thread ReferenceIdeal.nD ReferenceIdeal.τ).loc ReferenceIdeal.main_arg0))
      (m' (((0 : Dev ReferenceIdeal.nD) : Thread ReferenceIdeal.nD ReferenceIdeal.τ).loc ReferenceIdeal.main_arg1)), ?_, ?_⟩
  · exact (θ_run (KernelIdeal.defs (F := Ideal)) _ _).mono
      (fun r h c => ⟨(h c).1.trans (results_agree m _ _ (fun c => (hargs c).1) (fun c => (hargs c).2) c), (h c).2⟩)
      (KernelIdealProof.run_value (F := Ideal) m g)
  · exact (θ_run (ReferenceIdeal.defs (F := Ideal)) _ _).mono (fun r h => h 0) (ReferenceIdeal.Value.run (F := Ideal) m' g')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel at the float words runs, leaves its arguments as they were, and ends with its semaphores at zero. -/
theorem quiet_kernel : Cert.quiescent_Kernel (hKernel := Cert.Kernel.Gen.facts) :=
  fun m g _ => Cert.KernelProof.run_quiet m g

/-- The same of the kernel over the extended reals. -/
theorem quiet_ideal : Cert.quiescent_KernelIdeal (hKernelIdeal := Cert.KernelIdeal.Gen.facts) :=
  fun m g _ => Cert.KernelIdealProof.run_quiet m g

theorem claim : Cert.Claim := ⟨Cert.Kernel.Gen.facts, Cert.KernelIdeal.Gen.facts, Cert.ReferenceIdeal.Gen.facts,
  quiet_kernel, quiet_ideal, Cert.Equation.quiet_reference, trivial, Cert.Equation.algebraic⟩

end Cert.Proof

end
